-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x8192 : Shape := ⟨3, ![2, 1024, 8192]⟩
abbrev S2x1024x64 : Shape := ⟨3, ![2, 1024, 64]⟩
abbrev S3584x8192 : Shape := ⟨2, ![3584, 8192]⟩
abbrev S28x64 : Shape := ⟨2, ![28, 64]⟩
abbrev S2048x8192 : Shape := ⟨2, ![2048, 8192]⟩
abbrev S2048x64 : Shape := ⟨2, ![2048, 64]⟩
abbrev S2048x3584 : Shape := ⟨2, ![2048, 3584]⟩
abbrev S2048x28 : Shape := ⟨2, ![2048, 28]⟩
abbrev S1024x8192 : Shape := ⟨2, ![1024, 8192]⟩
abbrev S1024x64 : Shape := ⟨2, ![1024, 64]⟩
abbrev S128x8192 : Shape := ⟨2, ![128, 8192]⟩
abbrev S1024x128 : Shape := ⟨2, ![1024, 128]⟩
abbrev S1024x28 : Shape := ⟨2, ![1024, 28]⟩
abbrev S256x8192 : Shape := ⟨2, ![256, 8192]⟩
abbrev S1024x1 : Shape := ⟨2, ![1024, 1]⟩
abbrev S1x1 : Shape := ⟨2, ![1, 1]⟩
abbrev S128x128 : Shape := ⟨2, ![128, 128]⟩
abbrev S1024x256 : Shape := ⟨2, ![1024, 256]⟩
abbrev S1024 : Shape := ⟨1, ![1024]⟩

abbrev nBuf : Space → Nat
  | .hbm => 10
  | .vmem => 14
  | .smem => 2
  | _ => 0

abbrev bufTy : (tb : Table) → Fin (tcTables nBuf tb) → BufTy
  | .hbm, ⟨0, _⟩ => ⟨S2x1024x8192, .fp8e4m3⟩
  | .hbm, ⟨1, _⟩ => ⟨S2x1024x64, .f32⟩
  | .hbm, ⟨2, _⟩ => ⟨S3584x8192, .fp8e4m3⟩
  | .hbm, ⟨3, _⟩ => ⟨S28x64, .f32⟩
  | .hbm, ⟨4, _⟩ => ⟨S3584x8192, .fp8e4m3⟩
  | .hbm, ⟨5, _⟩ => ⟨S28x64, .f32⟩
  | .hbm, ⟨6, _⟩ => ⟨S2048x8192, .fp8e4m3⟩
  | .hbm, ⟨7, _⟩ => ⟨S2048x64, .f32⟩
  | .hbm, ⟨8, _⟩ => ⟨S2048x3584, .fp8e4m3⟩
  | .hbm, ⟨9, _⟩ => ⟨S2048x28, .f32⟩
  | .local _ .vmem, ⟨0, _⟩ => ⟨S1024x8192, .fp8e4m3⟩
  | .local _ .vmem, ⟨1, _⟩ => ⟨S1024x8192, .fp8e4m3⟩
  | .local _ .vmem, ⟨2, _⟩ => ⟨S1024x64, .f32⟩
  | .local _ .vmem, ⟨3, _⟩ => ⟨S1024x64, .f32⟩
  | .local _ .vmem, ⟨4, _⟩ => ⟨S128x8192, .fp8e4m3⟩
  | .local _ .vmem, ⟨5, _⟩ => ⟨S128x8192, .fp8e4m3⟩
  | .local _ .vmem, ⟨6, _⟩ => ⟨S128x8192, .fp8e4m3⟩
  | .local _ .vmem, ⟨7, _⟩ => ⟨S128x8192, .fp8e4m3⟩
  | .local _ .vmem, ⟨8, _⟩ => ⟨S1024x128, .fp8e4m3⟩
  | .local _ .vmem, ⟨9, _⟩ => ⟨S1024x128, .fp8e4m3⟩
  | .local _ .vmem, ⟨10, _⟩ => ⟨S1024x28, .f32⟩
  | .local _ .vmem, ⟨11, _⟩ => ⟨S1024x28, .f32⟩
  | .local _ .vmem, ⟨12, _⟩ => ⟨S1024x8192, .bf16⟩
  | .local _ .vmem, ⟨13, _⟩ => ⟨S256x8192, .bf16⟩
  | .local _ .smem, ⟨0, _⟩ => ⟨S28x64, .f32⟩
  | .local _ .smem, ⟨1, _⟩ => ⟨S28x64, .f32⟩
  | _, _ => ⟨S2x1024x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 28], ![false, false]⟩

def k0_off1 (i : grid0.Coords) : Fin 2 → Nat :=
  let arg1 : BitVec 32 := BitVec.ofNat 32 (i 1).val
  let v3 : Index := Scalar.indexCast arg1
  let c0 : Index := 0#32
  ![v3.toNat, 0]
def k0_off2 (i : grid0.Coords) : Fin 2 → Nat :=
  let arg1 : BitVec 32 := BitVec.ofNat 32 (i 1).val
  let v13 : Index := Scalar.indexCast arg1
  let c1 : Index := 1#32
  ![v13.toNat, 1]
def k0_off3 (i : grid0.Coords) : Fin 2 → Nat :=
  let arg1 : BitVec 32 := BitVec.ofNat 32 (i 1).val
  let v23 : Index := Scalar.indexCast arg1
  let c2 : Index := 2#32
  ![v23.toNat, 2]
def k0_off4 (i : grid0.Coords) : Fin 2 → Nat :=
  let arg1 : BitVec 32 := BitVec.ofNat 32 (i 1).val
  let v33 : Index := Scalar.indexCast arg1
  let c3 : Index := 3#32
  ![v33.toNat, 3]
def k0_off5 (i : grid0.Coords) : Fin 2 → Nat :=
  let arg1 : BitVec 32 := BitVec.ofNat 32 (i 1).val
  let v43 : Index := Scalar.indexCast arg1
  let c4 : Index := 4#32
  ![v43.toNat, 4]
def k0_off6 (i : grid0.Coords) : Fin 2 → Nat :=
  let arg1 : BitVec 32 := BitVec.ofNat 32 (i 1).val
  let v53 : Index := Scalar.indexCast arg1
  let c5 : Index := 5#32
  ![v53.toNat, 5]
def k0_off7 (i : grid0.Coords) : Fin 2 → Nat :=
  let arg1 : BitVec 32 := BitVec.ofNat 32 (i 1).val
  let v63 : Index := Scalar.indexCast arg1
  let c6 : Index := 6#32
  ![v63.toNat, 6]
def k0_off8 (i : grid0.Coords) : Fin 2 → Nat :=
  let arg1 : BitVec 32 := BitVec.ofNat 32 (i 1).val
  let v73 : Index := Scalar.indexCast arg1
  let c7 : Index := 7#32
  ![v73.toNat, 7]
def k0_off9 (i : grid0.Coords) : Fin 2 → Nat :=
  let arg1 : BitVec 32 := BitVec.ofNat 32 (i 1).val
  let v83 : Index := Scalar.indexCast arg1
  let c8 : Index := 8#32
  ![v83.toNat, 8]
def k0_off10 (i : grid0.Coords) : Fin 2 → Nat :=
  let arg1 : BitVec 32 := BitVec.ofNat 32 (i 1).val
  let v93 : Index := Scalar.indexCast arg1
  let c9 : Index := 9#32
  ![v93.toNat, 9]
def k0_off11 (i : grid0.Coords) : Fin 2 → Nat :=
  let arg1 : BitVec 32 := BitVec.ofNat 32 (i 1).val
  let v103 : Index := Scalar.indexCast arg1
  let c10 : Index := 10#32
  ![v103.toNat, 10]
def k0_off12 (i : grid0.Coords) : Fin 2 → Nat :=
  let arg1 : BitVec 32 := BitVec.ofNat 32 (i 1).val
  let v113 : Index := Scalar.indexCast arg1
  let c11 : Index := 11#32
  ![v113.toNat, 11]
def k0_off13 (i : grid0.Coords) : Fin 2 → Nat :=
  let arg1 : BitVec 32 := BitVec.ofNat 32 (i 1).val
  let v123 : Index := Scalar.indexCast arg1
  let c12 : Index := 12#32
  ![v123.toNat, 12]
def k0_off14 (i : grid0.Coords) : Fin 2 → Nat :=
  let arg1 : BitVec 32 := BitVec.ofNat 32 (i 1).val
  let v133 : Index := Scalar.indexCast arg1
  let c13 : Index := 13#32
  ![v133.toNat, 13]
def k0_off15 (i : grid0.Coords) : Fin 2 → Nat :=
  let arg1 : BitVec 32 := BitVec.ofNat 32 (i 1).val
  let v143 : Index := Scalar.indexCast arg1
  let c14 : Index := 14#32
  ![v143.toNat, 14]
def k0_off16 (i : grid0.Coords) : Fin 2 → Nat :=
  let arg1 : BitVec 32 := BitVec.ofNat 32 (i 1).val
  let v153 : Index := Scalar.indexCast arg1
  let c15 : Index := 15#32
  ![v153.toNat, 15]
def k0_off17 (i : grid0.Coords) : Fin 2 → Nat :=
  let arg1 : BitVec 32 := BitVec.ofNat 32 (i 1).val
  let v163 : Index := Scalar.indexCast arg1
  let c16 : Index := 16#32
  ![v163.toNat, 16]
def k0_off18 (i : grid0.Coords) : Fin 2 → Nat :=
  let arg1 : BitVec 32 := BitVec.ofNat 32 (i 1).val
  let v173 : Index := Scalar.indexCast arg1
  let c17 : Index := 17#32
  ![v173.toNat, 17]
def k0_off19 (i : grid0.Coords) : Fin 2 → Nat :=
  let arg1 : BitVec 32 := BitVec.ofNat 32 (i 1).val
  let v183 : Index := Scalar.indexCast arg1
  let c18 : Index := 18#32
  ![v183.toNat, 18]
def k0_off20 (i : grid0.Coords) : Fin 2 → Nat :=
  let arg1 : BitVec 32 := BitVec.ofNat 32 (i 1).val
  let v193 : Index := Scalar.indexCast arg1
  let c19 : Index := 19#32
  ![v193.toNat, 19]
def k0_off21 (i : grid0.Coords) : Fin 2 → Nat :=
  let arg1 : BitVec 32 := BitVec.ofNat 32 (i 1).val
  let v203 : Index := Scalar.indexCast arg1
  let c20 : Index := 20#32
  ![v203.toNat, 20]
def k0_off22 (i : grid0.Coords) : Fin 2 → Nat :=
  let arg1 : BitVec 32 := BitVec.ofNat 32 (i 1).val
  let v213 : Index := Scalar.indexCast arg1
  let c21 : Index := 21#32
  ![v213.toNat, 21]
def k0_off23 (i : grid0.Coords) : Fin 2 → Nat :=
  let arg1 : BitVec 32 := BitVec.ofNat 32 (i 1).val
  let v223 : Index := Scalar.indexCast arg1
  let c22 : Index := 22#32
  ![v223.toNat, 22]
def k0_off24 (i : grid0.Coords) : Fin 2 → Nat :=
  let arg1 : BitVec 32 := BitVec.ofNat 32 (i 1).val
  let v233 : Index := Scalar.indexCast arg1
  let c23 : Index := 23#32
  ![v233.toNat, 23]
def k0_off25 (i : grid0.Coords) : Fin 2 → Nat :=
  let arg1 : BitVec 32 := BitVec.ofNat 32 (i 1).val
  let v243 : Index := Scalar.indexCast arg1
  let c24 : Index := 24#32
  ![v243.toNat, 24]
def k0_off26 (i : grid0.Coords) : Fin 2 → Nat :=
  let arg1 : BitVec 32 := BitVec.ofNat 32 (i 1).val
  let v253 : Index := Scalar.indexCast arg1
  let c25 : Index := 25#32
  ![v253.toNat, 25]
def k0_off27 (i : grid0.Coords) : Fin 2 → Nat :=
  let arg1 : BitVec 32 := BitVec.ofNat 32 (i 1).val
  let v263 : Index := Scalar.indexCast arg1
  let c26 : Index := 26#32
  ![v263.toNat, 26]
def k0_off28 (i : grid0.Coords) : Fin 2 → Nat :=
  let arg1 : BitVec 32 := BitVec.ofNat 32 (i 1).val
  let v273 : Index := Scalar.indexCast arg1
  let c27 : Index := 27#32
  ![v273.toNat, 27]
def k0_off29 (i : grid0.Coords) : Fin 2 → Nat :=
  let arg1 : BitVec 32 := BitVec.ofNat 32 (i 1).val
  let v283 : Index := Scalar.indexCast arg1
  let c28 : Index := 28#32
  ![v283.toNat, 28]
def k0_off30 (i : grid0.Coords) : Fin 2 → Nat :=
  let arg1 : BitVec 32 := BitVec.ofNat 32 (i 1).val
  let v293 : Index := Scalar.indexCast arg1
  let c29 : Index := 29#32
  ![v293.toNat, 29]
def k0_off31 (i : grid0.Coords) : Fin 2 → Nat :=
  let arg1 : BitVec 32 := BitVec.ofNat 32 (i 1).val
  let v303 : Index := Scalar.indexCast arg1
  let c30 : Index := 30#32
  ![v303.toNat, 30]
def k0_off32 (i : grid0.Coords) : Fin 2 → Nat :=
  let arg1 : BitVec 32 := BitVec.ofNat 32 (i 1).val
  let v313 : Index := Scalar.indexCast arg1
  let c31 : Index := 31#32
  ![v313.toNat, 31]
def k0_off33 (i : grid0.Coords) : Fin 2 → Nat :=
  let arg1 : BitVec 32 := BitVec.ofNat 32 (i 1).val
  let v323 : Index := Scalar.indexCast arg1
  let c32 : Index := 32#32
  ![v323.toNat, 32]
def k0_off34 (i : grid0.Coords) : Fin 2 → Nat :=
  let arg1 : BitVec 32 := BitVec.ofNat 32 (i 1).val
  let v333 : Index := Scalar.indexCast arg1
  let c33 : Index := 33#32
  ![v333.toNat, 33]
def k0_off35 (i : grid0.Coords) : Fin 2 → Nat :=
  let arg1 : BitVec 32 := BitVec.ofNat 32 (i 1).val
  let v343 : Index := Scalar.indexCast arg1
  let c34 : Index := 34#32
  ![v343.toNat, 34]
def k0_off36 (i : grid0.Coords) : Fin 2 → Nat :=
  let arg1 : BitVec 32 := BitVec.ofNat 32 (i 1).val
  let v353 : Index := Scalar.indexCast arg1
  let c35 : Index := 35#32
  ![v353.toNat, 35]
def k0_off37 (i : grid0.Coords) : Fin 2 → Nat :=
  let arg1 : BitVec 32 := BitVec.ofNat 32 (i 1).val
  let v363 : Index := Scalar.indexCast arg1
  let c36 : Index := 36#32
  ![v363.toNat, 36]
def k0_off38 (i : grid0.Coords) : Fin 2 → Nat :=
  let arg1 : BitVec 32 := BitVec.ofNat 32 (i 1).val
  let v373 : Index := Scalar.indexCast arg1
  let c37 : Index := 37#32
  ![v373.toNat, 37]
def k0_off39 (i : grid0.Coords) : Fin 2 → Nat :=
  let arg1 : BitVec 32 := BitVec.ofNat 32 (i 1).val
  let v383 : Index := Scalar.indexCast arg1
  let c38 : Index := 38#32
  ![v383.toNat, 38]
def k0_off40 (i : grid0.Coords) : Fin 2 → Nat :=
  let arg1 : BitVec 32 := BitVec.ofNat 32 (i 1).val
  let v393 : Index := Scalar.indexCast arg1
  let c39 : Index := 39#32
  ![v393.toNat, 39]
def k0_off41 (i : grid0.Coords) : Fin 2 → Nat :=
  let arg1 : BitVec 32 := BitVec.ofNat 32 (i 1).val
  let v403 : Index := Scalar.indexCast arg1
  let c40 : Index := 40#32
  ![v403.toNat, 40]
def k0_off42 (i : grid0.Coords) : Fin 2 → Nat :=
  let arg1 : BitVec 32 := BitVec.ofNat 32 (i 1).val
  let v413 : Index := Scalar.indexCast arg1
  let c41 : Index := 41#32
  ![v413.toNat, 41]
def k0_off43 (i : grid0.Coords) : Fin 2 → Nat :=
  let arg1 : BitVec 32 := BitVec.ofNat 32 (i 1).val
  let v423 : Index := Scalar.indexCast arg1
  let c42 : Index := 42#32
  ![v423.toNat, 42]
def k0_off44 (i : grid0.Coords) : Fin 2 → Nat :=
  let arg1 : BitVec 32 := BitVec.ofNat 32 (i 1).val
  let v433 : Index := Scalar.indexCast arg1
  let c43 : Index := 43#32
  ![v433.toNat, 43]
def k0_off45 (i : grid0.Coords) : Fin 2 → Nat :=
  let arg1 : BitVec 32 := BitVec.ofNat 32 (i 1).val
  let v443 : Index := Scalar.indexCast arg1
  let c44 : Index := 44#32
  ![v443.toNat, 44]
def k0_off46 (i : grid0.Coords) : Fin 2 → Nat :=
  let arg1 : BitVec 32 := BitVec.ofNat 32 (i 1).val
  let v453 : Index := Scalar.indexCast arg1
  let c45 : Index := 45#32
  ![v453.toNat, 45]
def k0_off47 (i : grid0.Coords) : Fin 2 → Nat :=
  let arg1 : BitVec 32 := BitVec.ofNat 32 (i 1).val
  let v463 : Index := Scalar.indexCast arg1
  let c46 : Index := 46#32
  ![v463.toNat, 46]
def k0_off48 (i : grid0.Coords) : Fin 2 → Nat :=
  let arg1 : BitVec 32 := BitVec.ofNat 32 (i 1).val
  let v473 : Index := Scalar.indexCast arg1
  let c47 : Index := 47#32
  ![v473.toNat, 47]
def k0_off49 (i : grid0.Coords) : Fin 2 → Nat :=
  let arg1 : BitVec 32 := BitVec.ofNat 32 (i 1).val
  let v483 : Index := Scalar.indexCast arg1
  let c48 : Index := 48#32
  ![v483.toNat, 48]
def k0_off50 (i : grid0.Coords) : Fin 2 → Nat :=
  let arg1 : BitVec 32 := BitVec.ofNat 32 (i 1).val
  let v493 : Index := Scalar.indexCast arg1
  let c49 : Index := 49#32
  ![v493.toNat, 49]
def k0_off51 (i : grid0.Coords) : Fin 2 → Nat :=
  let arg1 : BitVec 32 := BitVec.ofNat 32 (i 1).val
  let v503 : Index := Scalar.indexCast arg1
  let c50 : Index := 50#32
  ![v503.toNat, 50]
def k0_off52 (i : grid0.Coords) : Fin 2 → Nat :=
  let arg1 : BitVec 32 := BitVec.ofNat 32 (i 1).val
  let v513 : Index := Scalar.indexCast arg1
  let c51 : Index := 51#32
  ![v513.toNat, 51]
def k0_off53 (i : grid0.Coords) : Fin 2 → Nat :=
  let arg1 : BitVec 32 := BitVec.ofNat 32 (i 1).val
  let v523 : Index := Scalar.indexCast arg1
  let c52 : Index := 52#32
  ![v523.toNat, 52]
def k0_off54 (i : grid0.Coords) : Fin 2 → Nat :=
  let arg1 : BitVec 32 := BitVec.ofNat 32 (i 1).val
  let v533 : Index := Scalar.indexCast arg1
  let c53 : Index := 53#32
  ![v533.toNat, 53]
def k0_off55 (i : grid0.Coords) : Fin 2 → Nat :=
  let arg1 : BitVec 32 := BitVec.ofNat 32 (i 1).val
  let v543 : Index := Scalar.indexCast arg1
  let c54 : Index := 54#32
  ![v543.toNat, 54]
def k0_off56 (i : grid0.Coords) : Fin 2 → Nat :=
  let arg1 : BitVec 32 := BitVec.ofNat 32 (i 1).val
  let v553 : Index := Scalar.indexCast arg1
  let c55 : Index := 55#32
  ![v553.toNat, 55]
def k0_off57 (i : grid0.Coords) : Fin 2 → Nat :=
  let arg1 : BitVec 32 := BitVec.ofNat 32 (i 1).val
  let v563 : Index := Scalar.indexCast arg1
  let c56 : Index := 56#32
  ![v563.toNat, 56]
def k0_off58 (i : grid0.Coords) : Fin 2 → Nat :=
  let arg1 : BitVec 32 := BitVec.ofNat 32 (i 1).val
  let v573 : Index := Scalar.indexCast arg1
  let c57 : Index := 57#32
  ![v573.toNat, 57]
def k0_off59 (i : grid0.Coords) : Fin 2 → Nat :=
  let arg1 : BitVec 32 := BitVec.ofNat 32 (i 1).val
  let v583 : Index := Scalar.indexCast arg1
  let c58 : Index := 58#32
  ![v583.toNat, 58]
def k0_off60 (i : grid0.Coords) : Fin 2 → Nat :=
  let arg1 : BitVec 32 := BitVec.ofNat 32 (i 1).val
  let v593 : Index := Scalar.indexCast arg1
  let c59 : Index := 59#32
  ![v593.toNat, 59]
def k0_off61 (i : grid0.Coords) : Fin 2 → Nat :=
  let arg1 : BitVec 32 := BitVec.ofNat 32 (i 1).val
  let v603 : Index := Scalar.indexCast arg1
  let c60 : Index := 60#32
  ![v603.toNat, 60]
def k0_off62 (i : grid0.Coords) : Fin 2 → Nat :=
  let arg1 : BitVec 32 := BitVec.ofNat 32 (i 1).val
  let v613 : Index := Scalar.indexCast arg1
  let c61 : Index := 61#32
  ![v613.toNat, 61]
def k0_off63 (i : grid0.Coords) : Fin 2 → Nat :=
  let arg1 : BitVec 32 := BitVec.ofNat 32 (i 1).val
  let v623 : Index := Scalar.indexCast arg1
  let c62 : Index := 62#32
  ![v623.toNat, 62]
def k0_off64 (i : grid0.Coords) : Fin 2 → Nat :=
  let arg1 : BitVec 32 := BitVec.ofNat 32 (i 1).val
  let v633 : Index := Scalar.indexCast arg1
  let c63 : Index := 63#32
  ![v633.toNat, 63]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S128x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S128x8192 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .smem S28x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S28x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x28 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2x1024x8192 : Shape := ⟨3, ![2, 1024, 8192]⟩
abbrev S2x1024x64 : Shape := ⟨3, ![2, 1024, 64]⟩
abbrev S3584x8192 : Shape := ⟨2, ![3584, 8192]⟩
abbrev S28x64 : Shape := ⟨2, ![28, 64]⟩
abbrev S2048x8192 : Shape := ⟨2, ![2048, 8192]⟩
abbrev S2048x64 : Shape := ⟨2, ![2048, 64]⟩
abbrev S2048x3584 : Shape := ⟨2, ![2048, 3584]⟩
abbrev S2048x28 : Shape := ⟨2, ![2048, 28]⟩
abbrev S2048x64x1 : Shape := ⟨3, ![2048, 64, 1]⟩
abbrev S2048x64x128 : Shape := ⟨3, ![2048, 64, 128]⟩
abbrev S28x1x64 : Shape := ⟨3, ![28, 1, 64]⟩
abbrev S28x128x64 : Shape := ⟨3, ![28, 128, 64]⟩
abbrev S3584x64 : Shape := ⟨2, ![3584, 64]⟩
abbrev S3584x64x1 : Shape := ⟨3, ![3584, 64, 1]⟩
abbrev S3584x64x128 : Shape := ⟨3, ![3584, 64, 128]⟩
abbrev S2048x28x128 : Shape := ⟨3, ![2048, 28, 128]⟩
abbrev S2048x28x1 : Shape := ⟨3, ![2048, 28, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x1024x8192, .fp8e4m3⟩
  | .hbm, ⟨1, _⟩ => ⟨S2x1024x64, .f32⟩
  | .hbm, ⟨2, _⟩ => ⟨S3584x8192, .fp8e4m3⟩
  | .hbm, ⟨3, _⟩ => ⟨S28x64, .f32⟩
  | .hbm, ⟨4, _⟩ => ⟨S3584x8192, .fp8e4m3⟩
  | .hbm, ⟨5, _⟩ => ⟨S28x64, .f32⟩
  | .hbm, ⟨6, _⟩ => ⟨S2048x8192, .fp8e4m3⟩
  | .hbm, ⟨7, _⟩ => ⟨S2048x64, .f32⟩
  | .hbm, ⟨8, _⟩ => ⟨S2048x3584, .fp8e4m3⟩
  | .hbm, ⟨9, _⟩ => ⟨S2048x28, .f32⟩
  | .local _ .vmem, ⟨0, _⟩ => ⟨S2048x8192, .fp8e4m3⟩
  | .local _ .vmem, ⟨1, _⟩ => ⟨S2048x64, .f32⟩
  | .local _ .vmem, ⟨2, _⟩ => ⟨S3584x8192, .fp8e4m3⟩
  | .local _ .vmem, ⟨3, _⟩ => ⟨S28x64, .f32⟩
  | .local _ .vmem, ⟨4, _⟩ => ⟨S3584x8192, .fp8e4m3⟩
  | .local _ .vmem, ⟨5, _⟩ => ⟨S28x64, .f32⟩
  | .local _ .vmem, ⟨6, _⟩ => ⟨S2048x3584, .fp8e4m3⟩
  | .local _ .vmem, ⟨7, _⟩ => ⟨S2048x28, .f32⟩
  | _, _ => ⟨S2x1024x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2048x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S28x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S28x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x28 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KernelFrame.lean ====
module

public import proofs.«01_k».proof.Proof.Gen.Kernel.Frame
public import proofs.«01_k».proof.Proof.Gen.Kernel.Skeleton
public import Idealize.ShloMosaic.Lib.Claim

@[expose] public section

/-! # The frame of `Kernel`

The body of a grid point runs to the end with its argument blocks unchanged (two cases: the first point of a row of
blocks, and the others), so every execution of the program ends, leaves the argument arrays as they were and every
semaphore counter at zero. Nothing is said of the results here. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (its scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 28) — by arithmetic of the point. -/
theorem hcond0_0 : ∀ t : Fin cfg0.N, cond0_0 (grid0.coords t) ↔ t.val % 28 = 0 :=
  (fun t => by
    have ht : t.val < 56 := Nat.lt_of_lt_of_eq t.isLt N_0
    have e0 : (grid0.coords t 0).val = t.val / 28 % 2 := Pipeline.Grid.coords_val t 0 (by decide) rfl
    have e1 : (grid0.coords t 1).val = t.val / 1 % 28 := Pipeline.Grid.coords_val t 1 (by decide) rfl
    simp only [cond0_0, e0, e1]
    word_cmp
   : ∀ t : Fin grid0.N, cond0_0 (grid0.coords t) ↔ t.val % 28 = 0)

/-! ## The kernel body on any staging memrefs: a subtype the run finds -/

/-- Each window's current staging memref at point `t`, spelled as the pipeline passes it (`bodyAt0`), and its wholeness. -/
abbrev ms0_0 (t : Fin cfg0.N) : Memref sig .tc .vmem S1024x8192 .fp8e4m3 := win0_0.stage (cfg0.slots t 0)
/-- The staging buffer of the left operand is a whole buffer. -/
abbrev hs0_0 (t : Fin cfg0.N) : (ms0_0 t).IsWhole := hstage0_0 ((cfg0.slots t 0).cast nbuf0_0)
/-- The staging buffer of the left scales at a grid point. -/
abbrev ms0_1 (t : Fin cfg0.N) : Memref sig .tc .vmem S1024x64 .f32 := win0_1.stage (cfg0.slots t 1)
/-- The staging buffer of the left scales is a whole buffer. -/
abbrev hs0_1 (t : Fin cfg0.N) : (ms0_1 t).IsWhole := hstage0_1 ((cfg0.slots t 1).cast nbuf0_1)
/-- The staging buffer of the gate codes at a grid point. -/
abbrev ms0_2 (t : Fin cfg0.N) : Memref sig .tc .vmem S128x8192 .fp8e4m3 := win0_2.stage (cfg0.slots t 2)
/-- The staging buffer of the gate codes is a whole buffer. -/
abbrev hs0_2 (t : Fin cfg0.N) : (ms0_2 t).IsWhole := hstage0_2 ((cfg0.slots t 2).cast nbuf0_2)
/-- The staging buffer of the up codes at a grid point. -/
abbrev ms0_3 (t : Fin cfg0.N) : Memref sig .tc .vmem S128x8192 .fp8e4m3 := win0_3.stage (cfg0.slots t 3)
/-- The staging buffer of the up codes is a whole buffer. -/
abbrev hs0_3 (t : Fin cfg0.N) : (ms0_3 t).IsWhole := hstage0_3 ((cfg0.slots t 3).cast nbuf0_3)
/-- The staging buffer of the gate scales at a grid point. -/
abbrev ms0_4 (t : Fin cfg0.N) : Memref sig .tc .smem S28x64 .f32 := win0_4.stage (cfg0.slots t 4)
/-- The staging buffer of the gate scales is a whole buffer. -/
abbrev hs0_4 (t : Fin cfg0.N) : (ms0_4 t).IsWhole := hstage0_4 ((cfg0.slots t 4).cast nbuf0_4)
/-- The staging buffer of the up scales at a grid point. -/
abbrev ms0_5 (t : Fin cfg0.N) : Memref sig .tc .smem S28x64 .f32 := win0_5.stage (cfg0.slots t 5)
/-- The staging buffer of the up scales is a whole buffer. -/
abbrev hs0_5 (t : Fin cfg0.N) : (ms0_5 t).IsWhole := hstage0_5 ((cfg0.slots t 5).cast nbuf0_5)
/-- The staging buffer of the result codes at a grid point. -/
abbrev ms0_6 (t : Fin cfg0.N) : Memref sig .tc .vmem S1024x128 .fp8e4m3 := win0_6.stage (cfg0.slots t 6)
/-- The staging buffer of the result codes is a whole buffer. -/
abbrev hs0_6 (t : Fin cfg0.N) : (ms0_6 t).IsWhole := hstage0_6 ((cfg0.slots t 6).cast nbuf0_6)
/-- The staging buffer of the result scales at a grid point. -/
abbrev ms0_7 (t : Fin cfg0.N) : Memref sig .tc .vmem S1024x28 .f32 := win0_7.stage (cfg0.slots t 7)
/-- The staging buffer of the result scales is a whole buffer. -/
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x8192 .bf16 := Memref.whole cc0_scratch0
/-- The scratch array of the two weight blocks. -/
abbrev scM0_1 : Memref sig .tc .vmem S256x8192 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: checking it walks past the default budget)
set_option maxHeartbeats 4872000 in
/-- The body's triple IN CASE A (`scf.if` 0 taken: points 0, 28): on whole staging memrefs — the inputs' at their contents,
    the FORGOTTEN outputs' (6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1024x8192 .fp8e4m3) (harg2 : arg2.IsWhole) (arg3 : Memref sig .tc .vmem S1024x64 .f32) (harg3 : arg3.IsWhole) (arg4 : Memref sig .tc .vmem S128x8192 .fp8e4m3) (harg4 : arg4.IsWhole) (arg5 : Memref sig .tc .vmem S128x8192 .fp8e4m3) (harg5 : arg5.IsWhole) (arg6 : Memref sig .tc .smem S28x64 .f32) (harg6 : arg6.IsWhole) (arg7 : Memref sig .tc .smem S28x64 .f32) (harg7 : arg7.IsWhole) (arg8 : Memref sig .tc .vmem S1024x128 .fp8e4m3) (harg8 : arg8.IsWhole) (arg9 : Memref sig .tc .vmem S1024x28 .f32) (harg9 : arg9.IsWhole) (arg10 : Memref sig .tc .vmem S1024x8192 .bf16) (harg10 : arg10.IsWhole) (arg11 : Memref sig .tc .vmem S256x8192 .bf16) (harg11 : arg11.IsWhole) (hc0 : cond0_0 i)
    (x0 : Vec F S1024x8192 .fp8e4m3) (x1 : Vec F S1024x64 .f32) (x2 : Vec F S128x8192 .fp8e4m3) (x3 : Vec F S128x8192 .fp8e4m3) (x4 : Vec F S28x64 .f32) (x5 : Vec F S28x64 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_gate_up_swiglu i arg2 harg2 arg3 harg3 arg4 harg4 arg5 harg5 arg6 harg6 arg7 harg7 arg8 harg8 arg9 harg9 arg10 harg10 arg11 harg11) K := by
    intro E K
    simp only [cc0_gate_up_swiglu_eq_skeleton]; unfold cc0_gate_up_swiglu_skel
    simp only [k0_part57_eq_skeleton, k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

-- (the run's proof term is large: checking it walks past the default budget)
set_option maxHeartbeats 3432000 in
/-- The body's triple IN CASE B (`scf.if` 0 not taken: points 1, 2, … 55: 54 of 56): on whole staging memrefs — the inputs' at their contents,
    the FORGOTTEN outputs' (6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1024x8192 .fp8e4m3) (harg2 : arg2.IsWhole) (arg3 : Memref sig .tc .vmem S1024x64 .f32) (harg3 : arg3.IsWhole) (arg4 : Memref sig .tc .vmem S128x8192 .fp8e4m3) (harg4 : arg4.IsWhole) (arg5 : Memref sig .tc .vmem S128x8192 .fp8e4m3) (harg5 : arg5.IsWhole) (arg6 : Memref sig .tc .smem S28x64 .f32) (harg6 : arg6.IsWhole) (arg7 : Memref sig .tc .smem S28x64 .f32) (harg7 : arg7.IsWhole) (arg8 : Memref sig .tc .vmem S1024x128 .fp8e4m3) (harg8 : arg8.IsWhole) (arg9 : Memref sig .tc .vmem S1024x28 .f32) (harg9 : arg9.IsWhole) (arg10 : Memref sig .tc .vmem S1024x8192 .bf16) (harg10 : arg10.IsWhole) (arg11 : Memref sig .tc .vmem S256x8192 .bf16) (harg11 : arg11.IsWhole) (hc0 : ¬cond0_0 i)
    (x0 : Vec F S1024x8192 .fp8e4m3) (x1 : Vec F S1024x64 .f32) (x2 : Vec F S128x8192 .fp8e4m3) (x3 : Vec F S128x8192 .fp8e4m3) (x4 : Vec F S28x64 .f32) (x5 : Vec F S28x64 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0_gate_up_swiglu i arg2 harg2 arg3 harg3 arg4 harg4 arg5 harg5 arg6 harg6 arg7 harg7 arg8 harg8 arg9 harg9 arg10 harg10 arg11 harg11) K := by
    intro E K
    simp only [cc0_gate_up_swiglu_eq_skeleton]; unfold cc0_gate_up_swiglu_skel
    simp only [k0_part57_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    iexists _, _; isplitr; swap; · iexact HS1
    ipureintro; rfl

variable (m : (ℓ : Loc nD τ sig) → Buf (Elt F) ℓ) (ρ : Dev nD → PrngReg)
/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 4 rfl).trans ((hA c 4).trans (V_main_arg3 m c)),
      (Pipeline.RDat.FramePost.arr_in h c 3 rfl).trans ((hA c 3).trans (V_main_arg4 m c)),
      (Pipeline.RDat.FramePost.arr_in h c 5 rfl).trans ((hA c 5).trans (V_main_arg5 m c))⟩) h

/-! ## The pipeline's proof data -/

/-- The output windows this certificate FORGETS (6, 7): nothing reads what the kernel leaves in them, so nothing
    of it is named (Lib/Pipeline/Dat.lean `Dat.toRForget`). -/
def forgets0 : Fin 8 → Bool := fun w => w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
/-- What the body leaves in the block of the left scales. -/
theorem after0_1 (c : Dev nD) (t : Fin cfg0.N) : (dats m 0 c).after 1 t = iblk m c 1 t := by dsimp only [dats]
/-- What the body leaves in the block of the gate codes. -/
theorem after0_2 (c : Dev nD) (t : Fin cfg0.N) : (dats m 0 c).after 2 t = iblk m c 2 t := by dsimp only [dats]
/-- What the body leaves in the block of the up codes. -/
theorem after0_3 (c : Dev nD) (t : Fin cfg0.N) : (dats m 0 c).after 3 t = iblk m c 3 t := by dsimp only [dats]
/-- What the body leaves in the block of the gate scales. -/
theorem after0_4 (c : Dev nD) (t : Fin cfg0.N) : (dats m 0 c).after 4 t = iblk m c 4 t := by dsimp only [dats]
/-- What the body leaves in the block of the up scales. -/
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What the body finds in the block of the left scales. -/
theorem before0_1 (c : Dev nD) (t : Fin cfg0.N) (d) : (dats m 0 c).before 1 t d = iblk m c 1 t :=
  before0_1_of m (dats m 0 c) (A_eq m c 1) (after0_1 m c) t d
/-- What the body finds in the block of the gate codes. -/
theorem before0_2 (c : Dev nD) (t : Fin cfg0.N) (d) : (dats m 0 c).before 2 t d = iblk m c 2 t :=
  before0_2_of m (dats m 0 c) (A_eq m c 2) (after0_2 m c) t d
/-- What the body finds in the block of the up codes. -/
theorem before0_3 (c : Dev nD) (t : Fin cfg0.N) (d) : (dats m 0 c).before 3 t d = iblk m c 3 t :=
  before0_3_of m (dats m 0 c) (A_eq m c 3) (after0_3 m c) t d
/-- What the body finds in the block of the gate scales. -/
theorem before0_4 (c : Dev nD) (t : Fin cfg0.N) (d) : (dats m 0 c).before 4 t d = iblk m c 4 t :=
  before0_4_of m (dats m 0 c) (A_eq m c 4) (after0_4 m c) t d
/-- What the body finds in the block of the up scales. -/
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d)
    ∗ (∃ d, owns (c : Thread nD τ) (ms0_7 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 56 := lt_of_lt_of_eq t.isLt (show cfg0.N = 56 from N_0)
  by_cases h0 : t.val % 28 = 0
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Hand

end
-- ==== Proof.Dequant.lean ====
module

public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.WordCmp
public import Idealize.ShloMosaic.Lib.Pipeline.ValueKit

@[expose] public section

/-! # The two dequantised operand blocks of a grid point

Each block is written 128 columns at a time: a tile of codes times its scale. The lemmas here read one such tile at
an index; every unrolled store of the body is an instance of one of them. -/

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL.Sem

variable {F : FTy → Type} [FloatOps F]

/-- The column group (of 128) that a column of the long axis lies in. -/
def grp (k : Fin 8192) : Fin 64 := ⟨k.val / 128, by omega⟩

/-- One dequantised element: the code widened to bf16, times the scale rounded to bf16. -/
def deq (c : F .fp8e4m3) (s : F .f32) : F .bf16 :=
  FloatOps.mulf (FloatOps.extf .bf16 bitsLt_fp8e4m3_bf16 c) (FloatOps.truncf .bf16 bitsLt_bf16_f32 s)

/-- The dequantised block of x: element (r, k) is code (r, k) times scale (r, k / 128). -/
def xdeq (x0 : Vec F S1024x8192 .fp8e4m3) (x1 : Vec F S1024x64 .f32) : Vec F S1024x8192 .bf16 :=
  fun y => deq (x0 y) (x1 (fun a => match a with | ⟨0, _⟩ => y 0 | ⟨1, _⟩ => grp (y 1) : S1024x64.Idx))

/-- Row `j`, column group of `k`, of a table of weight scales. -/
def wix (j : Fin 28) (k : Fin 8192) : S28x64.Idx := fun a => match a with | ⟨0, _⟩ => j | ⟨1, _⟩ => grp k

/-- The dequantised weight block of grid column `j`: rows 0..127 are the gate rows, rows 128..255 the up rows. -/
def wdeq (j : Fin 28) (x2 x3 : Vec F S128x8192 .fp8e4m3) (x4 x5 : Vec F S28x64 .f32) : Vec F S256x8192 .bf16 :=
  fun y => if h : (y 0).val < 128
    then deq (x2 (fun a => match a with | ⟨0, _⟩ => ⟨(y 0).val, h⟩ | ⟨1, _⟩ => y 1 : S128x8192.Idx)) (x4 (wix j (y 1)))
    else deq (x3 (fun a => match a with | ⟨0, _⟩ => ⟨(y 0).val - 128, by have h0 : (y 0).val < 256 := (y 0).isLt; show (y 0).val - 128 < 128; omega⟩ | ⟨1, _⟩ => y 1 : S128x8192.Idx)) (x5 (wix j (y 1)))

/-- Column group `g` of the x block: what the store of that group writes is the dequantised block there. -/
theorem xpiece {m2 : Memref sig .tc .vmem S1024x8192 .fp8e4m3} {h2 : m2.IsWhole} {m3 : Memref sig .tc .vmem S1024x64 .f32} {h3 : m3.IsWhole}
    (x0 : Vec F S1024x8192 .fp8e4m3) (x1 : Vec F S1024x64 .f32) (g o : ℕ) (inbA) (inbB) (x : S1024x128.Idx) (y : S1024x8192.Idx)
    (ho : o = 128 * g) (e0 : (y 0).val = (x 0).val) (e1 : (y 1).val = o + (x 1).val) :
    k0_pay1 (View.readAt (Elt F) m3.view (Rect.unit (s := S1024x64) ![0, g] S1024x1.size inbA).toLoadRect (h3.unread x1))
      (View.readAt (Elt F) m2.view (Rect.unit (s := S1024x8192) ![0, o] S1024x128.size inbB).toLoadRect (h2.unread x0)) x = xdeq x0 x1 y := by
  have hx1 : (x 1).val < 128 := (x 1).isLt
  simp only [View.readAt_eq_ld, Memref.IsWhole.read_unread]
  unfold k0_pay1
  pointwise
  unfold xdeq deq
  refine congrArg₂ _ (congrArg _ (congrArg x0 ?_)) (congrArg _ (congrArg x1 ?_))
  · exact funext fun a => Fin.ext (match a with | ⟨0, _⟩ => e0.symm | ⟨1, _⟩ => e1.symm)
  · exact funext fun a => Fin.ext (match a with | ⟨0, _⟩ => e0.symm | ⟨1, _⟩ => show g = (y 1).val / 128 by omega)

/-- One tile of a weight block: what its store writes at local index `x`. -/
theorem wpiece {m2 : Memref sig .tc .vmem S128x8192 .fp8e4m3} {h2 : m2.IsWhole} {m4 : Memref sig .tc .smem S28x64 .f32} {h4 : m4.IsWhole}
    (x2 : Vec F S128x8192 .fp8e4m3) (x4 : Vec F S28x64 .f32) (j : Fin 28) (off : Fin 2 → ℕ) (g o : ℕ) (inbA) (inbB) (p : (Rect.unit (s := S28x64) off S1x1.size inbA).shape.Idx) (x : S128x128.Idx)
    (y : S128x8192.Idx) (hoff : off = ![(BitVec.ofNat 32 j.val).toNat, g])
    (ho : o = 128 * g) (e0 : (y 0).val = (x 0).val) (e1 : (y 1).val = o + (x 1).val) :
    k0_pay84 (View.readAt (Elt F) m4.view (Rect.unit (s := S28x64) off S1x1.size inbA).toLoadRect (h4.unread x4) p)
      (View.readAt (Elt F) m2.view (Rect.unit (s := S128x8192) ![0, o] S128x128.size inbB).toLoadRect (h2.unread x2)) x
      = deq (x2 y) (x4 (wix j (y 1))) := by
  have hx1 : (x 1).val < 128 := (x 1).isLt
  subst hoff
  have hp0 : (p 0).val < 1 := (p 0).isLt
  have hp1 : (p 1).val < 1 := (p 1).isLt
  simp only [View.readAt_eq_ld, Memref.IsWhole.read_unread]
  unfold k0_pay84
  pointwise
  unfold deq
  refine congrArg₂ _ (congrArg _ (congrArg x2 ?_)) (congrArg _ (congrArg x4 ?_))
  · exact funext fun a => Fin.ext (match a with | ⟨0, _⟩ => e0.symm | ⟨1, _⟩ => e1.symm)
  · refine funext fun a => Fin.ext (match a with
      | ⟨0, _⟩ => show (BitVec.ofNat 32 j.val).toNat = j.val by rw [BitVec.toNat_ofNat]; exact Nat.mod_eq_of_lt (by omega)
      | ⟨1, _⟩ => show g = (y 1).val / 128 by omega)

/-- A tile of the gate rows (rows 0..127) of the weight block. -/
theorem wgate {m2 : Memref sig .tc .vmem S128x8192 .fp8e4m3} {h2 : m2.IsWhole} {m4 : Memref sig .tc .smem S28x64 .f32} {h4 : m4.IsWhole}
    (x2 x3 : Vec F S128x8192 .fp8e4m3) (x4 x5 : Vec F S28x64 .f32) (j : Fin 28) (off : Fin 2 → ℕ) (g o : ℕ) (inbA) (inbB) (p : (Rect.unit (s := S28x64) off S1x1.size inbA).shape.Idx) (x : S128x128.Idx)
    (y : S256x8192.Idx) (hoff : off = ![(BitVec.ofNat 32 j.val).toNat, g])
    (ho : o = 128 * g) (e0 : (y 0).val = (x 0).val) (e1 : (y 1).val = o + (x 1).val) :
    k0_pay84 (View.readAt (Elt F) m4.view (Rect.unit (s := S28x64) off S1x1.size inbA).toLoadRect (h4.unread x4) p)
      (View.readAt (Elt F) m2.view (Rect.unit (s := S128x8192) ![0, o] S128x128.size inbB).toLoadRect (h2.unread x2)) x
      = wdeq j x2 x3 x4 x5 y := by
  have h : (y 0).val < 128 := e0 ▸ (x 0).isLt
  unfold wdeq
  rw [dif_pos h]
  exact wpiece x2 x4 j off g o inbA inbB p x (fun a => match a with | ⟨0, _⟩ => ⟨(y 0).val, h⟩ | ⟨1, _⟩ => y 1) hoff ho e0 e1

/-- A tile of the up rows (rows 128..255) of the weight block. -/
theorem wup {m2 : Memref sig .tc .vmem S128x8192 .fp8e4m3} {h2 : m2.IsWhole} {m4 : Memref sig .tc .smem S28x64 .f32} {h4 : m4.IsWhole}
    (x2 x3 : Vec F S128x8192 .fp8e4m3) (x4 x5 : Vec F S28x64 .f32) (j : Fin 28) (off : Fin 2 → ℕ) (g o : ℕ) (inbA) (inbB) (p : (Rect.unit (s := S28x64) off S1x1.size inbA).shape.Idx) (x : S128x128.Idx)
    (y : S256x8192.Idx) (hoff : off = ![(BitVec.ofNat 32 j.val).toNat, g])
    (ho : o = 128 * g) (e0 : (y 0).val = 128 + (x 0).val) (e1 : (y 1).val = o + (x 1).val) :
    k0_pay84 (View.readAt (Elt F) m4.view (Rect.unit (s := S28x64) off S1x1.size inbA).toLoadRect (h4.unread x5) p)
      (View.readAt (Elt F) m2.view (Rect.unit (s := S128x8192) ![0, o] S128x128.size inbB).toLoadRect (h2.unread x3)) x
      = wdeq j x2 x3 x4 x5 y := by
  have h : ¬ (y 0).val < 128 := by omega
  unfold wdeq
  rw [dif_neg h]
  exact wpiece x3 x5 j off g o inbA inbB p x (fun a => match a with | ⟨0, _⟩ => ⟨(y 0).val - 128, _⟩ | ⟨1, _⟩ => y 1) hoff ho (show (y 0).val - 128 = _ by omega) e1

/-- What a store of a whole memref leaves, read back: its payload. -/
theorem read_stored {sig : RefSig} {κ : Kind} {sp : Space} {S : Shape} {e : EltTy} (v : View sig κ sp S e) (f : v.ty.Contents (Elt F))
    {off : Fin S.rank → ℕ} (inb : ∀ a, off a + S.size a ≤ S.size a) (w : S.Idx → Elt F e) (h : ∀ a, off a = 0) :
    v.read (Elt F) (v.writes (Elt F) f [(⟨Rect.unit off S.size inb, w⟩ : View.Piece (Elt F) S e)]) = w := by
  refine (View.read_writes_eq_canon _ _ _ fun y => ⟨_, List.mem_singleton.mpr rfl, ?_⟩).trans (View.canon_cons_unit_lit inb w [] h)
  rw [Rect.mem_set_unit]
  exact fun a => ⟨by rw [h a]; exact Nat.zero_le _, by rw [h a, Nat.zero_add]; exact (y a).isLt⟩

/-- The body's test that a grid point is the first of its row of blocks. -/
abbrev cond0_0 (i : grid0.Coords) : Prop := (Scalar.cmpi .ne (Scalar.extui (Scalar.cmpi .eq (BitVec.ofNat 32 (i 1).val) 0#32)) 0#32) = 1#1

/-! ## What one grid point computes -/

/-- The codes block from the dequantised operand blocks. -/
def codesOf (X : Vec F S1024x8192 .bf16) (W : Vec F S256x8192 .bf16) : FVec F S1024x128 .fp8e4m3 :=
  k0_pay242 (k0_pay235 X W) (k0_pay241 (k0_pay236 X W) (k0_pay237 X W) k0_pay238)

/-- The row scales from the dequantised operand blocks, one copy per lane. -/
def scaleOf (X : Vec F S1024x8192 .bf16) (W : Vec F S256x8192 .bf16) : FVec F S1024x128 .f32 :=
  k0_pay240 (k0_pay236 X W) (k0_pay237 X W) k0_pay238

end Cert.KernelIdeal.Hand
end
-- ==== Proof.Blocks.lean ====
module

public import proofs.«01_k».proof.Proof.Dequant
public import proofs.«01_k».proof.Proof.Gen.KernelIdeal.Launch
public import proofs.«01_k».proof.Proof.Gen.KernelIdeal.Frame
public import Idealize.ShloMosaic.Lib.Pipeline.ValueKit

@[expose] public section

/-! # The blocks of a grid point, read off the whole arrays

Grid point `t` is block row `t / 28` and group `t % 28`. The two dequantised operand blocks of the point are stated here
as functions of the whole arrays and of these two numbers. -/

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ)

/-- Row `y` of block row `b`, as a row of the whole array. -/
def xr (b : Fin 2) (y : Fin 1024) : Fin 2048 := ⟨1024 * b.val + y.val, by omega⟩

/-- Row `y` of group `j`, as a row of a weight array. -/
def wr (j : Fin 28) (y : Fin 128) : Fin 3584 := ⟨128 * j.val + y.val, by omega⟩

/-- The dequantised x of block row `b`. -/
def xrow (A0 : Vec F S2048x8192 .fp8e4m3) (A1 : Vec F S2048x64 .f32) (b : Fin 2) : Vec F S1024x8192 .bf16 :=
  fun y => deq (A0 (fun a => match a with | ⟨0, _⟩ => xr b (y 0) | ⟨1, _⟩ => y 1)) (A1 (fun a => match a with | ⟨0, _⟩ => xr b (y 0) | ⟨1, _⟩ => grp (y 1)))

/-- The dequantised weights of group `j`: the gate rows, then the up rows. -/
def wblk (A2 A4 : Vec F S3584x8192 .fp8e4m3) (A3 A5 : Vec F S28x64 .f32) (j : Fin 28) : Vec F S256x8192 .bf16 :=
  wdeq j (fun y => A2 (fun a => match a with | ⟨0, _⟩ => wr j (y 0) | ⟨1, _⟩ => y 1)) (fun y => A4 (fun a => match a with | ⟨0, _⟩ => wr j (y 0) | ⟨1, _⟩ => y 1)) A3 A5

/-- The block row of a grid point. -/
def bi (t : Fin cfg0.N) : Fin 2 := ⟨t.val / 28, by have : t.val < 56 := Nat.lt_of_lt_of_eq t.isLt N_0; omega⟩

/-- The group of a grid point. -/
def bj (t : Fin cfg0.N) : Fin 28 := ⟨t.val % 28, by omega⟩

/-- The first grid coordinate of a point is its block row. -/
theorem coords_0 (t : Fin cfg0.N) : (grid0.coords t 0).val = t.val / 28 := by
  have ht : t.val < 56 := Nat.lt_of_lt_of_eq t.isLt N_0
  have e0 : (grid0.coords t 0).val = t.val / 28 % 2 := Pipeline.Grid.coords_val t 0 (by decide) rfl
  omega

/-- The second grid coordinate of a point is its group. -/
theorem coords_1 (t : Fin cfg0.N) : (grid0.coords t 1).val = t.val % 28 := by
  have e1 : (grid0.coords t 1).val = t.val / 1 % 28 := Pipeline.Grid.coords_val t 1 (by decide) rfl
  omega

/-- The second grid coordinate of a point, as a bounded number. -/
theorem coords_1_eq (t : Fin cfg0.N) : grid0.coords t 1 = bj t := Fin.ext (coords_1 t)

/-! The block index of every window at every point. -/

/-- The block index of the left operand at every grid point. -/
theorem idx_0 : ∀ t : Fin cfg0.N, win0_0.index t = ![t.val / 28, 0] := (by decide +kernel : ∀ t : Fin grid0.N, _)
/-- The block index of the left scales at every grid point. -/
theorem idx_1 : ∀ t : Fin cfg0.N, win0_1.index t = ![t.val / 28, 0] := (by decide +kernel : ∀ t : Fin grid0.N, _)
/-- The block index of the gate codes at every grid point. -/
theorem idx_2 : ∀ t : Fin cfg0.N, win0_2.index t = ![t.val % 28, 0] := (by decide +kernel : ∀ t : Fin grid0.N, _)
/-- The block index of the up codes at every grid point. -/
theorem idx_3 : ∀ t : Fin cfg0.N, win0_3.index t = ![t.val % 28, 0] := (by decide +kernel : ∀ t : Fin grid0.N, _)
/-- The block index of the gate scales at every grid point. -/
theorem idx_4 : ∀ t : Fin cfg0.N, win0_4.index t = ![0, 0] := (by decide +kernel : ∀ t : Fin grid0.N, _)
/-- The block index of the up scales at every grid point. -/
theorem idx_5 : ∀ t : Fin cfg0.N, win0_5.index t = ![0, 0] := (by decide +kernel : ∀ t : Fin grid0.N, _)
/-- The block index of the result codes at every grid point. -/
theorem idx_6 : ∀ t : Fin cfg0.N, win0_6.index t = ![t.val / 28, t.val % 28] := (by decide +kernel : ∀ t : Fin grid0.N, _)
/-- The block index of the result scales at every grid point. -/
theorem idx_7 : ∀ t : Fin cfg0.N, win0_7.index t = ![t.val / 28, 0] := (by decide +kernel : ∀ t : Fin grid0.N, _)

/-- The dequantised x block of a point is its block row's. -/
theorem xdeq_iblk (c : Dev nD) (t : Fin cfg0.N) :
    xdeq (iblk m c 0 t) (iblk m c 1 t) = xrow (V m c main_v0) (V m c main_v1) (bi t) := by
  funext y
  unfold xdeq xrow
  refine congrArg₂ _ ?_ ?_
  · blk_simp [iblk]
    refine congrArg (V m c main_v0) ?_
    funext a; refine Fin.ext ?_
    match a with
    | ⟨0, _⟩ => blk_simp [idx_0]; simp [xr, bi]; omega
    | ⟨1, _⟩ => blk_simp [idx_0]; simp
  · blk_simp [iblk]
    refine congrArg (V m c main_v1) ?_
    funext a; refine Fin.ext ?_
    match a with
    | ⟨0, _⟩ => blk_simp [idx_1]; simp [xr, bi]; omega
    | ⟨1, _⟩ => blk_simp [idx_1]

/-- A block of the gate codes, read off the whole array. -/
theorem iblk_2 (c : Dev nD) (t : Fin cfg0.N) (y : S128x8192.Idx) :
    iblk m c 2 t y = V m c main_arg2 (fun a => match a with | ⟨0, _⟩ => wr (bj t) (y 0) | ⟨1, _⟩ => y 1 : S3584x8192.Idx) := by
  blk_simp [iblk]
  refine congrArg (V m c main_arg2) ?_
  funext a; refine Fin.ext ?_
  match a with
  | ⟨0, _⟩ => blk_simp [idx_2]; simp [wr, bj]; omega
  | ⟨1, _⟩ => blk_simp [idx_2]; simp

/-- A block of the up codes, read off the whole array. -/
theorem iblk_3 (c : Dev nD) (t : Fin cfg0.N) (y : S128x8192.Idx) :
    iblk m c 3 t y = V m c main_arg4 (fun a => match a with | ⟨0, _⟩ => wr (bj t) (y 0) | ⟨1, _⟩ => y 1 : S3584x8192.Idx) := by
  blk_simp [iblk]
  refine congrArg (V m c main_arg4) ?_
  funext a; refine Fin.ext ?_
  match a with
  | ⟨0, _⟩ => blk_simp [idx_3]; simp [wr, bj]; omega
  | ⟨1, _⟩ => blk_simp [idx_3]; simp

/-- The gate scales' block is their whole table. -/
theorem iblk_4 (c : Dev nD) (t : Fin cfg0.N) (y : S28x64.Idx) : iblk m c 4 t y = V m c main_arg3 y := by
  blk_simp [iblk]
  refine congrArg (V m c main_arg3) ?_
  funext a; refine Fin.ext ?_
  match a with
  | ⟨0, _⟩ => blk_simp [idx_4]
  | ⟨1, _⟩ => blk_simp [idx_4]

/-- The up scales' block is their whole table. -/
theorem iblk_5 (c : Dev nD) (t : Fin cfg0.N) (y : S28x64.Idx) : iblk m c 5 t y = V m c main_arg5 y := by
  blk_simp [iblk]
  refine congrArg (V m c main_arg5) ?_
  funext a; refine Fin.ext ?_
  match a with
  | ⟨0, _⟩ => blk_simp [idx_5]
  | ⟨1, _⟩ => blk_simp [idx_5]

/-- The dequantised weight block of a point is its group's. -/
theorem wdeq_iblk (c : Dev nD) (t : Fin cfg0.N) :
    wdeq (grid0.coords t 1) (iblk m c 2 t) (iblk m c 3 t) (iblk m c 4 t) (iblk m c 5 t)
      = wblk (V m c main_arg2) (V m c main_arg4) (V m c main_arg3) (V m c main_arg5) (bj t) := by
  have e : ∀ (j : Fin 28) {x2 x2' x3 x3' : Vec F S128x8192 .fp8e4m3} {x4 x4' x5 x5' : Vec F S28x64 .f32}, x2 = x2' → x3 = x3' → x4 = x4' → x5 = x5' →
      wdeq j x2 x3 x4 x5 = wdeq j x2' x3' x4' x5' := by rintro j _ _ _ _ _ _ _ _ rfl rfl rfl rfl; rfl
  unfold wblk
  rw [coords_1_eq]
  exact e _ (funext fun y => iblk_2 m c t y) (funext fun y => iblk_3 m c t y) (funext fun y => iblk_4 m c t y) (funext fun y => iblk_5 m c t y)

/-- The codes block of a point, from the whole arrays. -/
def codesAt (c : Dev nD) (b : Fin 2) (j : Fin 28) : Vec F S1024x128 .fp8e4m3 :=
  codesOf (xrow (V m c main_v0) (V m c main_v1) b) (wblk (V m c main_arg2) (V m c main_arg4) (V m c main_arg3) (V m c main_arg5) j)

/-- The row scales of a point, from the whole arrays, one copy per lane. -/
def scalesAt (c : Dev nD) (b : Fin 2) (j : Fin 28) : Vec F S1024x128 .f32 :=
  scaleOf (xrow (V m c main_v0) (V m c main_v1) b) (wblk (V m c main_arg2) (V m c main_arg4) (V m c main_arg3) (V m c main_arg5) j)

/-- Lane `l` of 28, as a lane of 128. -/
def wide (y : S1024x28.Idx) : S1024x128.Idx :=
  fun a => match a with | ⟨0, _⟩ => y 0 | ⟨1, _⟩ => ⟨(y 1).val, by have h : (y 1).val < 28 := (y 1).isLt; show (y 1).val < 128; omega⟩

/-- What the resident scale block holds after group `n` of block row `b`: the scales of every group up to `n`. -/
def ScalesUpTo (c : Dev nD) (b : Fin 2) (n : ℕ) (X : Vec F S1024x28 .f32) : Prop :=
  ∀ y : S1024x28.Idx, (y 1).val ≤ n → X y = scalesAt m c b (y 1) (wide y)

/-- Putting group `j`'s scales in lane `j`: that lane reads the new scales, every other lane what was there. -/
theorem put_lane (j : Fin 28) (s : Vec F S1024x128 .f32) (Y : Vec F S1024x28 .f32) (y : S1024x28.Idx) :
    k0_pay243 (BitVec.ofNat 32 j.val) s Y y = if (y 1).val = j.val then s (wide y) else Y y := by
  have h1 : (y 1).val < 28 := (y 1).isLt
  unfold k0_pay243
  pointwise
  have e : (IntOp.cmpi CmpIPredicate.eq (BitVec.ofNat 32 (y 1).val) (BitVec.ofNat 32 j.val) = 1#1) ↔ (y 1).val = j.val := by
    word_cmp
    try omega
  have ew : (ix2 (y 0) ⟨(y 1).val, by omega⟩ : S1024x128.Idx) = wide y := funext fun a => match a with | ⟨0, _⟩ => rfl | ⟨1, _⟩ => rfl
  unfold Scalar.select
  by_cases h : (y 1).val = j.val
  · rw [if_pos h]; exact (if_pos (e.mpr h)).trans (congrArg s ew)
  · rw [if_neg h]; exact if_neg (mt e.mp h)

end Cert.KernelIdeal.Hand
end
-- ==== Proof.RunA.lean ====
module

public import proofs.«01_k».proof.Proof.Dequant
public import proofs.«01_k».proof.Proof.Gen.KernelIdeal.Launch
public import Idealize.ShloMosaic.Lib.Ring
public import Idealize.ShloMosaic.Lib.Pipeline.ReadBack

@[expose] public section

/-! # The body at the first point of a row of blocks -/

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4872000 in
/-- At the first point of a row of blocks the body dequantises x into its scratch, then computes the block of codes and puts its scales in lane `i 1`. -/
theorem runA (c : Dev nD) (i : grid0.Coords) (arg2 : Memref sig .tc .vmem S1024x8192 .fp8e4m3) (harg2 : arg2.IsWhole) (arg3 : Memref sig .tc .vmem S1024x64 .f32) (harg3 : arg3.IsWhole) (arg4 : Memref sig .tc .vmem S128x8192 .fp8e4m3) (harg4 : arg4.IsWhole) (arg5 : Memref sig .tc .vmem S128x8192 .fp8e4m3) (harg5 : arg5.IsWhole) (arg6 : Memref sig .tc .smem S28x64 .f32) (harg6 : arg6.IsWhole) (arg7 : Memref sig .tc .smem S28x64 .f32) (harg7 : arg7.IsWhole) (arg8 : Memref sig .tc .vmem S1024x128 .fp8e4m3) (harg8 : arg8.IsWhole) (arg9 : Memref sig .tc .vmem S1024x28 .f32) (harg9 : arg9.IsWhole) (arg10 : Memref sig .tc .vmem S1024x8192 .bf16) (harg10 : arg10.IsWhole) (arg11 : Memref sig .tc .vmem S256x8192 .bf16) (harg11 : arg11.IsWhole) (hc0 : cond0_0 i)
    (x0 : Vec F S1024x8192 .fp8e4m3) (x1 : Vec F S1024x64 .f32) (x2 : Vec F S128x8192 .fp8e4m3) (x3 : Vec F S128x8192 .fp8e4m3) (x4 : Vec F S28x64 .f32) (x5 : Vec F S28x64 .f32) (Y : Vec F S1024x28 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare Y ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codesOf (xdeq x0 x1) (wdeq (i 1) x2 x3 x4 x5)) ∗ owns (c : Thread nD τ) arg9 fullShare (k0_pay243 (BitVec.ofNat 32 (i 1).val) (scaleOf (xdeq x0 x1) (wdeq (i 1) x2 x3 x4 x5)) Y) ∗ owns (c : Thread nD τ) arg10 fullShare (xdeq x0 x1) ∗ (∃ d, owns (c : Thread nD τ) arg11 fullShare d)) -∗ K ⟨⟩))
          ⊢ wp frame (wpE (defs₀ (F := F)) Variants.none c none) E (cc0_gate_up_swiglu i arg2 harg2 arg3 harg3 arg4 harg4 arg5 harg5 arg6 harg6 arg7 harg7 arg8 harg8 arg9 harg9 arg10 harg10 arg11 harg11) K := by
    intro E K
    simp only [cc0_gate_up_swiglu_eq_skeleton]; unfold cc0_gate_up_swiglu_skel
    simp only [k0_part57_eq_skeleton, k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7
    sl_exec (disch := first | sl_exact hc0)
    sl_step
    iapply Hk
    have hXc : View.canon (runA.sl.HS0_64 c arg2 harg2 arg3 harg3 x0 x1) = xdeq x0 x1 := by
      funext y
      sl_unfold_words
      canon_tiles x h
      iterate 63 exact xpiece x0 x1 _ _ _ _ x y rfl h0 h1
      exact xpiece x0 x1 0 0 _ _ x y rfl h0 (h1.trans (Nat.zero_add _).symm)
    have hXt : ∀ y, ∃ p ∈ runA.sl.HS0_64 c arg2 harg2 arg3 harg3 x0 x1, y ∈ p.1.set :=
      View.cover_of_tiledL _ S1024x128.size (by sl_kernel_rfl)
    have hWc : View.canon (runA.sl.HS1_128 c i arg4 harg4 arg5 harg5 arg6 harg6 arg7 harg7 x2 x3 x4 x5) = wdeq (i 1) x2 x3 x4 x5 := by
      funext y
      sl_unfold_words
      canon_tiles x h
      iterate 63 exact wup x2 x3 x4 x5 (i 1) _ _ _ _ _ _ x y rfl rfl h0 h1
      exact wup x2 x3 x4 x5 (i 1) _ 0 0 _ _ _ x y rfl rfl h0 (h1.trans (Nat.zero_add _).symm)
      iterate 63 exact wgate x2 x3 x4 x5 (i 1) _ _ _ _ _ _ x y rfl rfl h0 h1
      exact wgate x2 x3 x4 x5 (i 1) _ 0 0 _ _ _ x y rfl rfl h0 (h1.trans (Nat.zero_add _).symm)
    have hWt : ∀ y, ∃ p ∈ runA.sl.HS1_128 c i arg4 harg4 arg5 harg5 arg6 harg6 arg7 harg7 x2 x3 x4 x5, y ∈ p.1.set :=
      View.cover_of_tiledL _ S128x128.size (by sl_kernel_rfl)
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine (read_stored _ _ _ _ (by decide)).trans ?_
      unfold runA.sl.r_182 runA.sl.r_186 runA.sl.r_183 runA.sl.r_184 runA.sl.v1283 runA.sl.v1284 codesOf
      rw [View.readCov_eq_canon_ld _ _ _ hXt, View.readCov_eq_canon_ld _ _ _ hWt, hXc, hWc, View.ld_unit_lit _ _ (by decide), View.ld_unit_lit _ _ (by decide)]
    isplitl [H7]
    · iexists _; isplitr; swap; · iexact H7
      ipureintro
      refine (read_stored _ _ _ _ (by decide)).trans ?_
      unfold runA.sl.r_187 runA.sl.r_185 runA.sl.r_183 runA.sl.r_184 runA.sl.v1283 runA.sl.v1284 scaleOf
      rw [View.readCov_eq_canon_ld _ _ _ hXt, View.readCov_eq_canon_ld _ _ _ hWt, hXc, hWc, View.ld_unit_lit _ _ (by decide), View.ld_unit_lit _ _ (by decide), View.readAt_eq_ld, Memref.IsWhole.read_unread, View.ld_unit_lit _ _ (by decide)]
    isplitl [HS0]
    · iexists _; isplitr; swap; · iexact HS0
      ipureintro
      exact (View.read_writes_eq_canon _ _ _ hXt).trans hXc
    iexists _, _; isplitr; swap; · iexact HS1
    ipureintro; rfl

end Cert.KernelIdeal.Hand

end
-- ==== Proof.RunB.lean ====
module

public import proofs.«01_k».proof.Proof.Dequant
public import proofs.«01_k».proof.Proof.Gen.KernelIdeal.Launch
public import Idealize.ShloMosaic.Lib.Ring
public import Idealize.ShloMosaic.Lib.Pipeline.ReadBack

@[expose] public section

/-! # The body at the later points of a row of blocks -/

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4872000 in
/-- At every other point of the row the x scratch is kept: the same block computation over the contents `X` it holds. -/
theorem runB (c : Dev nD) (i : grid0.Coords) (arg2 : Memref sig .tc .vmem S1024x8192 .fp8e4m3) (harg2 : arg2.IsWhole) (arg3 : Memref sig .tc .vmem S1024x64 .f32) (harg3 : arg3.IsWhole) (arg4 : Memref sig .tc .vmem S128x8192 .fp8e4m3) (harg4 : arg4.IsWhole) (arg5 : Memref sig .tc .vmem S128x8192 .fp8e4m3) (harg5 : arg5.IsWhole) (arg6 : Memref sig .tc .smem S28x64 .f32) (harg6 : arg6.IsWhole) (arg7 : Memref sig .tc .smem S28x64 .f32) (harg7 : arg7.IsWhole) (arg8 : Memref sig .tc .vmem S1024x128 .fp8e4m3) (harg8 : arg8.IsWhole) (arg9 : Memref sig .tc .vmem S1024x28 .f32) (harg9 : arg9.IsWhole) (arg10 : Memref sig .tc .vmem S1024x8192 .bf16) (harg10 : arg10.IsWhole) (arg11 : Memref sig .tc .vmem S256x8192 .bf16) (harg11 : arg11.IsWhole) (hc0 : ¬ cond0_0 i)
    (x0 : Vec F S1024x8192 .fp8e4m3) (x1 : Vec F S1024x64 .f32) (x2 : Vec F S128x8192 .fp8e4m3) (x3 : Vec F S128x8192 .fp8e4m3) (x4 : Vec F S28x64 .f32) (x5 : Vec F S28x64 .f32) (Y : Vec F S1024x28 .f32) (X : Vec F S1024x8192 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare Y ∗ owns (c : Thread nD τ) arg10 fullShare X ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codesOf (X) (wdeq (i 1) x2 x3 x4 x5)) ∗ owns (c : Thread nD τ) arg9 fullShare (k0_pay243 (BitVec.ofNat 32 (i 1).val) (scaleOf (X) (wdeq (i 1) x2 x3 x4 x5)) Y) ∗ owns (c : Thread nD τ) arg10 fullShare (X) ∗ (∃ d, owns (c : Thread nD τ) arg11 fullShare d)) -∗ K ⟨⟩))
          ⊢ wp frame (wpE (defs₀ (F := F)) Variants.none c none) E (cc0_gate_up_swiglu i arg2 harg2 arg3 harg3 arg4 harg4 arg5 harg5 arg6 harg6 arg7 harg7 arg8 harg8 arg9 harg9 arg10 harg10 arg11 harg11) K := by
    intro E K
    simp only [cc0_gate_up_swiglu_eq_skeleton]; unfold cc0_gate_up_swiglu_skel
    simp only [k0_part57_eq_skeleton, k0_part21_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0
    sl_exec (disch := first | sl_exact hc0)
    sl_step
    iapply Hk
    have hWc : View.canon (runB.sl.HS1_128 c i arg4 harg4 arg5 harg5 arg6 harg6 arg7 harg7 x2 x3 x4 x5) = wdeq (i 1) x2 x3 x4 x5 := by
      funext y
      sl_unfold_words
      canon_tiles x h
      iterate 63 exact wup x2 x3 x4 x5 (i 1) _ _ _ _ _ _ x y rfl rfl h0 h1
      exact wup x2 x3 x4 x5 (i 1) _ 0 0 _ _ _ x y rfl rfl h0 (h1.trans (Nat.zero_add _).symm)
      iterate 63 exact wgate x2 x3 x4 x5 (i 1) _ _ _ _ _ _ x y rfl rfl h0 h1
      exact wgate x2 x3 x4 x5 (i 1) _ 0 0 _ _ _ x y rfl rfl h0 (h1.trans (Nat.zero_add _).symm)
    have hWt : ∀ y, ∃ p ∈ runB.sl.HS1_128 c i arg4 harg4 arg5 harg5 arg6 harg6 arg7 harg7 x2 x3 x4 x5, y ∈ p.1.set :=
      View.cover_of_tiledL _ S128x128.size (by sl_kernel_rfl)
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      refine (read_stored _ _ _ _ (by decide)).trans ?_
      unfold runB.sl.r_161 runB.sl.r_165 runB.sl.r_162 runB.sl.r_163 runB.sl.v1284 codesOf
      rw [View.readCov_eq_canon_ld _ _ _ hWt, hWc, View.readAt_eq_ld, Memref.IsWhole.read_unread, View.ld_unit_lit _ _ (by decide), View.ld_unit_lit _ _ (by decide)]
    isplitl [H7]
    · iexists _; isplitr; swap; · iexact H7
      ipureintro
      refine (read_stored _ _ _ _ (by decide)).trans ?_
      unfold runB.sl.r_166 runB.sl.r_164 runB.sl.r_162 runB.sl.r_163 runB.sl.v1284 scaleOf
      rw [View.readCov_eq_canon_ld _ _ _ hWt, hWc, View.readAt_eq_ld, Memref.IsWhole.read_unread, View.ld_unit_lit _ _ (by decide), View.ld_unit_lit _ _ (by decide), View.readAt_eq_ld arg9.view, Memref.IsWhole.read_unread, View.ld_unit_lit _ _ (by decide)]
    isplitl [HS0]
    · iexists _; isplitr; swap; · iexact HS0
      ipureintro
      exact harg10.read_unread _
    iexists _, _; isplitr; swap; · iexact HS1
    ipureintro; rfl

end Cert.KernelIdeal.Hand

end
-- ==== Proof.KernelRun.lean ====
module

public import proofs.«01_k».proof.Proof.Blocks
public import proofs.«01_k».proof.Proof.RunA
public import proofs.«01_k».proof.Proof.RunB
public import Idealize.ShloMosaic.Lib.Pipeline.DatRel
public import Idealize.ShloMosaic.Lib.Pipeline.ArrRel

@[expose] public section

/-! # The run of the kernel, with what it leaves in both results

The first result's blocks are named exactly. The scale block of a block row stays in place while its 28 groups run and is
read before it is first written, so it is held to a predicate: after group `n` its lanes up to `n` hold their scales. -/

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationRel cellOf)

variable {F : FTy → Type} [FloatOps F]

local notation "𝕄" => MT nD τ sig Unit (Elt F) ℕ (UR sig nD τ) ℕ

/-- It holds at the points ≡ 0 (mod 28) — by arithmetic of the point. -/
theorem hcond0_0 : ∀ t : Fin cfg0.N, cond0_0 (grid0.coords t) ↔ t.val % 28 = 0 :=
  (fun t => by
    have ht : t.val < 56 := Nat.lt_of_lt_of_eq t.isLt N_0
    have e0 : (grid0.coords t 0).val = t.val / 28 % 2 := Pipeline.Grid.coords_val t 0 (by decide) rfl
    have e1 : (grid0.coords t 1).val = t.val / 1 % 28 := Pipeline.Grid.coords_val t 1 (by decide) rfl
    simp only [cond0_0, e0, e1]
    word_cmp
   : ∀ t : Fin grid0.N, cond0_0 (grid0.coords t) ↔ t.val % 28 = 0)

/-! ## The kernel body on any staging memrefs: a subtype the run finds -/

/-- Each window's current staging memref at point `t`, spelled as the pipeline passes it (`bodyAt0`), and its wholeness. -/
abbrev ms0_0 (t : Fin cfg0.N) : Memref sig .tc .vmem S1024x8192 .fp8e4m3 := win0_0.stage (cfg0.slots t 0)
/-- The staging buffer of the left operand is a whole buffer. -/
abbrev hs0_0 (t : Fin cfg0.N) : (ms0_0 t).IsWhole := hstage0_0 ((cfg0.slots t 0).cast nbuf0_0)
/-- The staging buffer of the left scales at a grid point. -/
abbrev ms0_1 (t : Fin cfg0.N) : Memref sig .tc .vmem S1024x64 .f32 := win0_1.stage (cfg0.slots t 1)
/-- The staging buffer of the left scales is a whole buffer. -/
abbrev hs0_1 (t : Fin cfg0.N) : (ms0_1 t).IsWhole := hstage0_1 ((cfg0.slots t 1).cast nbuf0_1)
/-- The staging buffer of the gate codes at a grid point. -/
abbrev ms0_2 (t : Fin cfg0.N) : Memref sig .tc .vmem S128x8192 .fp8e4m3 := win0_2.stage (cfg0.slots t 2)
/-- The staging buffer of the gate codes is a whole buffer. -/
abbrev hs0_2 (t : Fin cfg0.N) : (ms0_2 t).IsWhole := hstage0_2 ((cfg0.slots t 2).cast nbuf0_2)
/-- The staging buffer of the up codes at a grid point. -/
abbrev ms0_3 (t : Fin cfg0.N) : Memref sig .tc .vmem S128x8192 .fp8e4m3 := win0_3.stage (cfg0.slots t 3)
/-- The staging buffer of the up codes is a whole buffer. -/
abbrev hs0_3 (t : Fin cfg0.N) : (ms0_3 t).IsWhole := hstage0_3 ((cfg0.slots t 3).cast nbuf0_3)
/-- The staging buffer of the gate scales at a grid point. -/
abbrev ms0_4 (t : Fin cfg0.N) : Memref sig .tc .smem S28x64 .f32 := win0_4.stage (cfg0.slots t 4)
/-- The staging buffer of the gate scales is a whole buffer. -/
abbrev hs0_4 (t : Fin cfg0.N) : (ms0_4 t).IsWhole := hstage0_4 ((cfg0.slots t 4).cast nbuf0_4)
/-- The staging buffer of the up scales at a grid point. -/
abbrev ms0_5 (t : Fin cfg0.N) : Memref sig .tc .smem S28x64 .f32 := win0_5.stage (cfg0.slots t 5)
/-- The staging buffer of the up scales is a whole buffer. -/
abbrev hs0_5 (t : Fin cfg0.N) : (ms0_5 t).IsWhole := hstage0_5 ((cfg0.slots t 5).cast nbuf0_5)
/-- The staging buffer of the result codes at a grid point. -/
abbrev ms0_6 (t : Fin cfg0.N) : Memref sig .tc .vmem S1024x128 .fp8e4m3 := win0_6.stage (cfg0.slots t 6)
/-- The staging buffer of the result codes is a whole buffer. -/
abbrev hs0_6 (t : Fin cfg0.N) : (ms0_6 t).IsWhole := hstage0_6 ((cfg0.slots t 6).cast nbuf0_6)
/-- The staging buffer of the result scales at a grid point. -/
abbrev ms0_7 (t : Fin cfg0.N) : Memref sig .tc .vmem S1024x28 .f32 := win0_7.stage (cfg0.slots t 7)
/-- The staging buffer of the result scales is a whole buffer. -/
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1024x8192 .bf16 := Memref.whole cc0_scratch0
/-- The scratch array of the two weight blocks. -/
abbrev scM0_1 : Memref sig .tc .vmem S256x8192 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

variable (m : (ℓ : Loc nD τ sig) → Buf (Elt F) ℓ) (ρ : Dev nD → PrngReg)

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 4 rfl).trans ((hA c 4).trans (V_main_arg3 m c)),
      (Pipeline.RDat.FramePost.arr_in h c 3 rfl).trans ((hA c 3).trans (V_main_arg4 m c)),
      (Pipeline.RDat.FramePost.arr_in h c 5 rfl).trans ((hA c 5).trans (V_main_arg5 m c))⟩) h

/-! ## The pipeline's proof data -/

/-- The x scratch between points: at the start of a block row anything, inside one the row's dequantised x. -/
def Xinv (c : Dev nD) (n : ℕ) : sProp 𝕄 :=
  if n % 28 = 0 then iprop(∃ d, owns (c : Thread nD τ) scM0_0 fullShare d)
  else owns (c : Thread nD τ) scM0_0 fullShare (xrow (V m c main_v0) (V m c main_v1) ⟨n / 28 % 2, by omega⟩)

/-- What is kept between points besides the staged blocks: the x scratch as `Xinv` says, the weight scratch and the
    generator register at anything. -/
def PhiH (c : Dev nD) (n : ℕ) : sProp 𝕄 :=
  iprop(iprop(Xinv m c n ∗ (∃ d, owns (c : Thread nD τ) scM0_1 fullShare d)) ∗ (∃ r, prngReg c r))

/-- The windows held to a predicate: the scale block alone. -/
def marked : Fin 8 → Bool := fun w => w.val == 7

/-- What the body leaves in the scale block. -/
def Left (c : Dev nD) (w : Fin cfg0.W) (t : Fin cfg0.N) : ((cfg0.win w).block.Idx → Elt F (cfg0.win w).elt) → Prop :=
  match w with
  | ⟨7, _⟩ => fun X => ScalesUpTo m c (bi t) (t.val % 28) X
  | _ => fun _ => True

/-- The proof data on core `c`: the arrays as the region finds them; after the body at point `t` each input's buffer at
    its block and the codes block at its value; the scale block is not named here but held to `Left`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesAt m c (bi t) (bj t)
    | ⟨7, h⟩ => Pipeline.Dat.unnamed (cfg := cfg0) ⟨7, h⟩ t
  Φ s := PhiH m c s.val
  q _ := fullShare
  owed _ := 0

/-- The proof data's arrays are the region-entry contents. -/
theorem A_eq (c : Dev nD) (w : Fin cfg0.W) : (dats m 0 c).A w = V m c (Pipeline.arrRef spec0 w) := by
  dsimp only [dats]
/-- What the body leaves, window by window. -/
theorem after0_0 (c : Dev nD) (t : Fin cfg0.N) : (dats m 0 c).after 0 t = iblk m c 0 t := by dsimp only [dats]
/-- What the body leaves in the block of the left scales. -/
theorem after0_1 (c : Dev nD) (t : Fin cfg0.N) : (dats m 0 c).after 1 t = iblk m c 1 t := by dsimp only [dats]
/-- What the body leaves in the block of the gate codes. -/
theorem after0_2 (c : Dev nD) (t : Fin cfg0.N) : (dats m 0 c).after 2 t = iblk m c 2 t := by dsimp only [dats]
/-- What the body leaves in the block of the up codes. -/
theorem after0_3 (c : Dev nD) (t : Fin cfg0.N) : (dats m 0 c).after 3 t = iblk m c 3 t := by dsimp only [dats]
/-- What the body leaves in the block of the gate scales. -/
theorem after0_4 (c : Dev nD) (t : Fin cfg0.N) : (dats m 0 c).after 4 t = iblk m c 4 t := by dsimp only [dats]
/-- What the body leaves in the block of the up scales. -/
theorem after0_5 (c : Dev nD) (t : Fin cfg0.N) : (dats m 0 c).after 5 t = iblk m c 5 t := by dsimp only [dats]
/-- What the body leaves in the block of the result codes. -/
theorem after0_6 (c : Dev nD) (t : Fin cfg0.N) : (dats m 0 c).after 6 t = codesAt m c (bi t) (bj t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- What the body finds in the block of the left scales. -/
theorem before0_1 (c : Dev nD) (t : Fin cfg0.N) (d) : (dats m 0 c).before 1 t d = iblk m c 1 t :=
  before0_1_of m (dats m 0 c) (A_eq m c 1) (after0_1 m c) t d
/-- What the body finds in the block of the gate codes. -/
theorem before0_2 (c : Dev nD) (t : Fin cfg0.N) (d) : (dats m 0 c).before 2 t d = iblk m c 2 t :=
  before0_2_of m (dats m 0 c) (A_eq m c 2) (after0_2 m c) t d
/-- What the body finds in the block of the up codes. -/
theorem before0_3 (c : Dev nD) (t : Fin cfg0.N) (d) : (dats m 0 c).before 3 t d = iblk m c 3 t :=
  before0_3_of m (dats m 0 c) (A_eq m c 3) (after0_3 m c) t d
/-- What the body finds in the block of the gate scales. -/
theorem before0_4 (c : Dev nD) (t : Fin cfg0.N) (d) : (dats m 0 c).before 4 t d = iblk m c 4 t :=
  before0_4_of m (dats m 0 c) (A_eq m c 4) (after0_4 m c) t d
/-- What the body finds in the block of the up scales. -/
theorem before0_5 (c : Dev nD) (t : Fin cfg0.N) (d) : (dats m 0 c).before 5 t d = iblk m c 5 t :=
  before0_5_of m (dats m 0 c) (A_eq m c 5) (after0_5 m c) t d

/-- After a point the x scratch is as the next point expects it. -/
theorem xinv_succ (c : Dev nD) (t : Fin cfg0.N) :
    owns (c : Thread nD τ) scM0_0 fullShare (xrow (V m c main_v0) (V m c main_v1) (bi t)) ⊢ (Xinv m c (t.val + 1) : sProp 𝕄) := by
  have hN : t.val < 56 := lt_of_lt_of_eq t.isLt (show cfg0.N = 56 from N_0)
  unfold Xinv
  by_cases h : (t.val + 1) % 28 = 0
  · rw [if_pos h]; iintro H; iexists _; iexact H
  · rw [if_neg h, show (⟨(t.val + 1) / 28 % 2, by omega⟩ : Fin 2) = bi t from Fin.ext (show (t.val + 1) / 28 % 2 = t.val / 28 by omega)]

/-- Inside a block row the x scratch holds the row's dequantised x. -/
theorem xinv_mid (c : Dev nD) (t : Fin cfg0.N) (h : t.val % 28 ≠ 0) :
    (Xinv m c t.val : sProp 𝕄) = owns (c : Thread nD τ) scM0_0 fullShare (xrow (V m c main_v0) (V m c main_v1) (bi t)) := by
  have hN : t.val < 56 := lt_of_lt_of_eq t.isLt (show cfg0.N = 56 from N_0)
  unfold Xinv
  rw [if_neg h, show (⟨t.val / 28 % 2, by omega⟩ : Fin 2) = bi t from Fin.ext (show t.val / 28 % 2 = t.val / 28 by omega)]

/-- Inside a block row the body finds the scale block as the point before left it. -/
theorem found_mid (c : Dev nD) (t : Fin cfg0.N) (h : t.val % 28 ≠ 0) (Y : Vec F S1024x28 .f32)
    (hY : ((dats m 0 c).toRRel marked (Left m c)).Finds 7 t Y) : ScalesUpTo m c (bi t) (t.val % 28 - 1) Y := by
  have hN : t.val < 56 := lt_of_lt_of_eq t.isLt (show cfg0.N = 56 from N_0)
  have ht : t.val ≠ 0 := by omega
  rcases (Pipeline.RDat.finds_of_pos _ (w := 7) (by rfl) ht Y).mp hY with hfl | hl
  · have := (flush0_7 _).mp hfl
    simp only at this; omega
  · have h2 := (dats m 0 c).toRRel_leaves (w := 7) (by rfl) hl
    have h3 : ScalesUpTo m c (bi ⟨t.val - 1, by omega⟩) ((t.val - 1) % 28) Y := h2
    rw [show bi ⟨t.val - 1, _⟩ = bi t from Fin.ext (show (t.val - 1) / 28 = t.val / 28 by omega), show (t.val - 1) % 28 = t.val % 28 - 1 by omega] at h3
    exact h3

/-- What the body leaves in the scale block, given what it found there. -/
theorem left_of (c : Dev nD) (t : Fin cfg0.N) (Y : Vec F S1024x28 .f32) (hY : t.val % 28 ≠ 0 → ScalesUpTo m c (bi t) (t.val % 28 - 1) Y) :
    ScalesUpTo m c (bi t) (t.val % 28) (k0_pay243 (BitVec.ofNat 32 (grid0.coords t 1).val) (scalesAt m c (bi t) (bj t)) Y) := by
  intro y hy
  rw [coords_1_eq, put_lane (bj t)]
  by_cases h : (y 1).val = (bj t).val
  · rw [if_pos h, show (y 1 : Fin 28) = bj t from Fin.ext h]
  · rw [if_neg h]
    have hb : (bj t).val = t.val % 28 := rfl
    exact hY (by omega) y (by omega)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜((dats m 0 c).toRRel marked (Left m c)).Finds 7 t Y⌝ ∗ owns (c : Thread nD τ) (ms0_7 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ (∃ X, ⌜Left m c 7 t X⌝ ∗ owns (c : Thread nD τ) (ms0_7 t) fullShare X))

set_option maxHeartbeats 1600000 in
/-- The body at any point, by the two runs of the body: the first point of a block row or a later one. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = PhiH m c (t.val + 1) from rfl, show (dats m 0 c).Φ t.castSucc = PhiH m c t.val from rfl,
    show (dats m 0 c).owesAt () t.succ = (dats m 0 c).owesAt () t.castSucc from rfl,
    after0_0, after0_1, after0_2, after0_3, after0_4, after0_5, after0_6]
  unfold PhiH
  have hN : t.val < 56 := lt_of_lt_of_eq t.isLt (show cfg0.N = 56 from N_0)
  by_cases h0 : t.val % 28 = 0
  · rw [show (Xinv m c t.val : sProp 𝕄) = iprop(∃ d, owns (c : Thread nD τ) scM0_0 fullShare d) from if_pos h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%Y, %hY, H7⟩⟩
    have hrun := runA c (grid0.coords t) _ (hs0_0 t) _ (hs0_1 t) _ (hs0_2 t) _ (hs0_3 t) _ (hs0_4 t) _ (hs0_5 t) _ (hs0_6 t) _ (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) Y Set.univ
    rw [xdeq_iblk, wdeq_iblk] at hrun
    iapply (hrun _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iapply (xinv_succ m c t); iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; isplitr; swap; · iexact H7
    ipureintro; exact left_of m c t Y (fun h => absurd h0 h)
  · rw [xinv_mid m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%Y, %hY, H7⟩⟩
    have hrun := runB c (grid0.coords t) _ (hs0_0 t) _ (hs0_1 t) _ (hs0_2 t) _ (hs0_3 t) _ (hs0_4 t) _ (hs0_5 t) _ (hs0_6 t) _ (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) Y (xrow (V m c main_v0) (V m c main_v1) (bi t)) Set.univ
    rw [wdeq_iblk] at hrun
    iapply (hrun _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iapply (xinv_succ m c t); iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; isplitr; swap; · iexact H7
    ipureintro; exact left_of m c t Y (fun h => found_mid m c t h Y hY)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligationRel (dats (F := F) m 0 c) (defs₀ (F := F)) Variants.none () Set.univ marked (Left m c) := fun t => by
  rw [bigSep_W0, bigSep_W0, defs₀_row]
  exact triple_restated (sound_body m c t) rfl .rfl fun _ => .rfl

/-! ## The run and the frame -/

/-- The relational proof data of the run. -/
abbrev rdat (c : Dev nD) : Pipeline.RDat τ (Elt F) Unit ℕ (UR sig nD τ) ℕ (cfgs 0) c := (dats m 0 c).toRRel marked (Left m c)

set_option backward.isDefEq.respectTransparency.types false in
/-- `RDat.θ_run_frame_track` at exact data with some windows held to a predicate. -/
theorem run_of (dats : (p : Fin 1) → (c : Dev nD) → Dat τ (Elt F) Unit ℕ (UR sig nD τ) ℕ (cfgs p) c) (fgt : Fin 8 → Bool)
    (Rl : (c : Dev nD) → (w : Fin cfg0.W) → Fin cfg0.N → ((cfg0.win w).block.Idx → Elt F (cfg0.win w).elt) → Prop)
    (hbody : ∀ c, BodyObligationRel (dats 0 c) (defs₀ (F := F)) Variants.none () Set.univ fgt (Rl c))
    (hshare : ∀ c w, (dats 0 c).share w = fullShare) (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ) (fun r => (Pipeline.RDat.FramePost (cfgs 0) (fun c => (dats 0 c).toRRel fgt (Rl c)) (V m)) r ∧ r.2.sem = fun _ => 0) :=
  Pipeline.RDat.θ_run_frame_track (Q' := _) cfgs (0 : Fin 1) launch0 defs₀ Variants.none (fun c => (dats 0 c).toRRel fgt (Rl c)) m ρ main
    (hbody := fun c => (hbody c).toRRel) (hshare := hshare) (howed := howed) (V := V m) (hmain := hmain m Variants.none) (hA := hA) (hin := hin) (hout := hout)

/-- THE LAUNCH: every execution terminates with the results as the proof data say and every semaphore counter at zero. -/
theorem run_main_quiescent : θ_run defs (onTc (τ := τ) (main (F := F))) (s₀ m ρ) (fun r => (Pipeline.RDat.FramePost (cfgs 0) (rdat m) (V m)) r ∧ r.2.sem = fun _ => 0) :=
  run_of m ρ (dats m) marked (Left m) (body_obligation m) (fun c => (dats m 0 c).share_full fun _ => rfl) (fun _ _ => rfl) (A_eq m)
    (fun c => by
      rw [show (dats m 0 c).Φ 0 = PhiH m c 0 from rfl, PhiA0_eq]; unfold PhiH
      rw [show (Xinv m c 0 : sProp 𝕄) = iprop(∃ d, owns (c : Thread nD τ) scM0_0 fullShare d) from if_pos rfl])
    (fun c => by
      rw [show (dats m 0 c).Φ (Fin.last cfg0.N) = PhiH m c 56 from congrArg (PhiH m c) N_0, PhiA0_eq]; unfold PhiH
      rw [show (Xinv m c 56 : sProp 𝕄) = iprop(∃ d, owns (c : Thread nD τ) scM0_0 fullShare d) from if_pos rfl])

/-- The frame: every execution terminates, the argument arrays end unchanged, and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (rdat m) (A_eq m) ((θ_run defs _ _).mono (fun _ h => h.1) (run_main_quiescent m ρ)))
    ((θ_run defs _ _).mono (fun _ h => h.2) (run_main_quiescent m ρ))

end Cert.KernelIdeal.Hand

end
-- ==== Proof.KernelResults.lean ====
module

public import proofs.«01_k».proof.Proof.KernelRun
public import Idealize.ShloMosaic.Lib.Pipeline.ValueKit

@[expose] public section

/-! # The two result arrays of the kernel

After the run each result is a function of the argument arrays alone: every element is read off the block of the grid
point that computed it. -/

set_option maxRecDepth 16384

noncomputable section

namespace Cert.KernelIdeal.Hand
open Cert.KernelIdeal Cert.KernelIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-- The block row of a row. -/
def rowBlk (r : Fin 2048) : Fin 2 := ⟨r.val / 1024, by omega⟩
/-- A row inside its block row. -/
def rowIn (r : Fin 2048) : Fin 1024 := ⟨r.val % 1024, by omega⟩
/-- The group of a column. -/
def colGrp (k : Fin 3584) : Fin 28 := ⟨k.val / 128, by omega⟩
/-- A column inside its group. -/
def colIn (k : Fin 3584) : Fin 128 := ⟨k.val % 128, by omega⟩

/-- The array of codes. -/
def codesAll (c : Dev nD) : Vec F S2048x3584 .fp8e4m3 :=
  fun z => codesAt m c (rowBlk (z 0)) (colGrp (z 1)) (fun a => match a with | ⟨0, _⟩ => rowIn (z 0) | ⟨1, _⟩ => colIn (z 1))

/-- The array of scales. -/
def scalesAll (c : Dev nD) : Vec F S2048x28 .f32 :=
  fun z => scalesAt m c (rowBlk (z 0)) (z 1) (wide (fun a => match a with | ⟨0, _⟩ => rowIn (z 0) | ⟨1, _⟩ => z 1))

/-- The array of codes at an element named by its block and its place in the block. -/
theorem codesAll_at (c : Dev nD) (z : S2048x3584.Idx) (b : Fin 2) (j : Fin 28) (y : S1024x128.Idx)
    (h0 : (z 0).val = 1024 * b.val + (y 0).val) (h1 : (z 1).val = 128 * j.val + (y 1).val) : codesAll m c z = codesAt m c b j y := by
  have y0 : (y 0).val < 1024 := (y 0).isLt
  have y1 : (y 1).val < 128 := (y 1).isLt
  unfold codesAll
  rw [show rowBlk (z 0) = b from Fin.ext (show (z 0).val / 1024 = b.val by omega), show colGrp (z 1) = j from Fin.ext (show (z 1).val / 128 = j.val by omega)]
  refine congrArg (codesAt m c b j) (funext fun a => ?_)
  match a with
  | ⟨0, _⟩ => exact Fin.ext (show (z 0).val % 1024 = (y 0).val by omega)
  | ⟨1, _⟩ => exact Fin.ext (show (z 1).val % 128 = (y 1).val by omega)

/-- The array of scales at an element named by its block row and its place in it. -/
theorem scalesAll_at (c : Dev nD) (z : S2048x28.Idx) (b : Fin 2) (y : S1024x28.Idx)
    (h0 : (z 0).val = 1024 * b.val + (y 0).val) (h1 : (z 1).val = (y 1).val) : scalesAll m c z = scalesAt m c b (y 1) (wide y) := by
  have y0 : (y 0).val < 1024 := (y 0).isLt
  unfold scalesAll
  rw [show rowBlk (z 0) = b from Fin.ext (show (z 0).val / 1024 = b.val by omega), show (z 1 : Fin 28) = y 1 from Fin.ext h1]
  refine congrArg (fun v => scalesAt m c b (y 1) (wide v)) (funext fun a => ?_)
  match a with
  | ⟨0, _⟩ => exact Fin.ext (show (z 0).val % 1024 = (y 0).val by omega)
  | ⟨1, _⟩ => rfl

/-- The codes array after the run, once every block's contents are known. -/
theorem codes_arr (c : Dev nD) (after : (w : Fin cfg0.W) → Fin cfg0.N → (cfg0.win w).block.Idx → Elt F (cfg0.win w).elt)
    (h : ∀ u, after 6 u = codesAt m c (bi u) (bj u)) : ((rdat m c).withAfter after).arrAt 6 cfg0.N = codesAll m c := by
  refine ((rdat m c).withAfter after).arrAt_eq_of_covers 6 _ (by decide +kernel) fun t hf y => ?_
  blk_simp
  refine (congrFun (h t) y).trans (codesAll_at m c _ (bi t) (bj t) y ?_ ?_).symm
  · blk_simp [idx_6]; simp [bi]; omega
  · blk_simp [idx_6]; simp [bj]; omega

/-- The scales array after the run, once every block written back is known to hold its 28 groups' scales. -/
theorem scales_arr (c : Dev nD) (after : (w : Fin cfg0.W) → Fin cfg0.N → (cfg0.win w).block.Idx → Elt F (cfg0.win w).elt)
    (h : ∀ u, (cfg0.win 7).flush u = true → ScalesUpTo m c (bi u) (u.val % 28) (after 7 u)) : ((rdat m c).withAfter after).arrAt 7 cfg0.N = scalesAll m c := by
  refine ((rdat m c).withAfter after).arrAt_eq_of_covers 7 _ (by decide +kernel) fun t hf y => ?_
  have h27 := (flush0_7 t).mp hf
  have y1 : (y 1).val < 28 := (y 1).isLt
  blk_simp
  refine (h t hf y (by omega)).trans (scalesAll_at m c _ (bi t) y ?_ ?_).symm
  · blk_simp [idx_7]; simp [bi]; omega
  · blk_simp [idx_7]; try simp

/-- What the body may leave in the codes block is its named value. -/
theorem leaves_6 (c : Dev nD) (u : Fin cfg0.N) (X) (hX : (rdat m c).Leaves 6 u X) : X = codesAt m c (bi u) (bj u) := by
  obtain ⟨Y, _, h⟩ := hX
  rw [rdat, Pipeline.Dat.toRRel_after_of_eq_false _ (by rfl)] at h
  exact h.trans (after0_6 m c u)

/-- THE RESULTS: every execution terminates with the two arrays as `codesAll` and `scalesAll` say and the arguments
    unchanged. -/
theorem results : θ_run defs (onTc (τ := τ) (main (F := F))) ⟨m, fun _ => 0, ρ⟩ (fun r => ∀ c : Dev nD,
      r.2.mem ((c.tc : Thread nD τ).loc main_v2_0) = codesAll m c
      ∧ r.2.mem ((c.tc : Thread nD τ).loc main_v2_1) = scalesAll m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (θ_run_and (run_main_quiescent m ρ) (frame m ρ))
  obtain ⟨after, hL, hA⟩ := h.1.1.exists_exact c
  refine ⟨(hA 6).trans (codes_arr m c after fun u => leaves_6 m c u _ (hL 6 u (flush0_6 u))),
    (hA 7).trans (scales_arr m c after fun u hu => ?_), h.2.1 c⟩
  exact (dats m 0 c).toRRel_leaves (w := 7) (by rfl) (hL 7 u hu)

end Cert.KernelIdeal.Hand
end
-- ==== Proof.RefResults.lean ====
module

public import proofs.«01_k».proof.Proof.Gen.ReferenceIdeal.Frame
public import Idealize.ShloMosaic.Lib.Pipeline.ValueKit

@[expose] public section

/-! # The reference's two arrays, as functions of its operands -/

set_option maxRecDepth 16384

noncomputable section

namespace Cert.ReferenceIdeal.Hand
open Cert.ReferenceIdeal Cert.ReferenceIdeal.Gen
open Idealize.ShloMosaic Idealize.ShloMosaic.TcCoe Idealize.ShloMosaic.Tactic
open Idealize.SL.Sem

variable {F : FTy → Type} [FloatOps F]
variable (m : (ℓ : Loc nD τ sig) → Buf (Elt F) ℓ) (ρ : Dev nD → PrngReg)

/-- The reference's activations, from the operands. -/
def hid (c : Dev nD) : FVec F S2048x28x128 .f32 :=
  k0_pay4 (V m c main_v0) (V m c main_v1) (V m c main_arg2) (V m c main_arg3) (V m c main_arg4) (V m c main_arg5)

/-- The reference's scaled row maxima, from the operands. -/
def amx (c : Dev nD) : FVec F S2048x28 .f32 :=
  k0_pay5 (V m c main_v0) (V m c main_v1) (V m c main_arg2) (V m c main_arg3) (V m c main_arg4) (V m c main_arg5)

/-! The one grid point's block of every operand is the whole operand. -/

/-- The block index of the left operand at every grid point. -/
theorem idx_0 : ∀ t : Fin cfg0.N, win0_0.index t = ![0, 0] := (by decide +kernel : ∀ t : Fin grid0.N, _)
/-- The block index of the left scales at every grid point. -/
theorem idx_1 : ∀ t : Fin cfg0.N, win0_1.index t = ![0, 0] := (by decide +kernel : ∀ t : Fin grid0.N, _)
/-- The block index of the gate codes at every grid point. -/
theorem idx_2 : ∀ t : Fin cfg0.N, win0_2.index t = ![0, 0] := (by decide +kernel : ∀ t : Fin grid0.N, _)
/-- The block index of the gate scales at every grid point. -/
theorem idx_3 : ∀ t : Fin cfg0.N, win0_3.index t = ![0, 0] := (by decide +kernel : ∀ t : Fin grid0.N, _)
/-- The block index of the up codes at every grid point. -/
theorem idx_4 : ∀ t : Fin cfg0.N, win0_4.index t = ![0, 0] := (by decide +kernel : ∀ t : Fin grid0.N, _)
/-- The block index of the up scales at every grid point. -/
theorem idx_5 : ∀ t : Fin cfg0.N, win0_5.index t = ![0, 0] := (by decide +kernel : ∀ t : Fin grid0.N, _)
/-- The block index of the result codes at every grid point. -/
theorem idx_6 : ∀ t : Fin cfg0.N, win0_6.index t = ![0, 0] := (by decide +kernel : ∀ t : Fin grid0.N, _)
/-- The block index of the result scales at every grid point. -/
theorem idx_7 : ∀ t : Fin cfg0.N, win0_7.index t = ![0, 0] := (by decide +kernel : ∀ t : Fin grid0.N, _)

/-- The one block of the left operand is the whole array. -/
theorem iblk_0 (c : Dev nD) (t : Fin cfg0.N) : iblk m c 0 t = V m c main_v0 := by
  funext y
  blk_simp [iblk]
  refine congrArg (V m c main_v0) (funext fun a => Fin.ext ?_)
  match a with
  | ⟨0, _⟩ => blk_simp [idx_0]; try simp
  | ⟨1, _⟩ => blk_simp [idx_0]; try simp

/-- The one block of the left scales is the whole array. -/
theorem iblk_1 (c : Dev nD) (t : Fin cfg0.N) : iblk m c 1 t = V m c main_v1 := by
  funext y
  blk_simp [iblk]
  refine congrArg (V m c main_v1) (funext fun a => Fin.ext ?_)
  match a with
  | ⟨0, _⟩ => blk_simp [idx_1]; try simp
  | ⟨1, _⟩ => blk_simp [idx_1]; try simp

/-- The one block of the gate codes is the whole array. -/
theorem iblk_2 (c : Dev nD) (t : Fin cfg0.N) : iblk m c 2 t = V m c main_arg2 := by
  funext y
  blk_simp [iblk]
  refine congrArg (V m c main_arg2) (funext fun a => Fin.ext ?_)
  match a with
  | ⟨0, _⟩ => blk_simp [idx_2]; try simp
  | ⟨1, _⟩ => blk_simp [idx_2]; try simp

/-- The one block of the gate scales is the whole array. -/
theorem iblk_3 (c : Dev nD) (t : Fin cfg0.N) : iblk m c 3 t = V m c main_arg3 := by
  funext y
  blk_simp [iblk]
  refine congrArg (V m c main_arg3) (funext fun a => Fin.ext ?_)
  match a with
  | ⟨0, _⟩ => blk_simp [idx_3]; try simp
  | ⟨1, _⟩ => blk_simp [idx_3]; try simp

/-- The one block of the up codes is the whole array. -/
theorem iblk_4 (c : Dev nD) (t : Fin cfg0.N) : iblk m c 4 t = V m c main_arg4 := by
  funext y
  blk_simp [iblk]
  refine congrArg (V m c main_arg4) (funext fun a => Fin.ext ?_)
  match a with
  | ⟨0, _⟩ => blk_simp [idx_4]; try simp
  | ⟨1, _⟩ => blk_simp [idx_4]; try simp

/-- The one block of the up scales is the whole array. -/
theorem iblk_5 (c : Dev nD) (t : Fin cfg0.N) : iblk m c 5 t = V m c main_arg5 := by
  funext y
  blk_simp [iblk]
  refine congrArg (V m c main_arg5) (funext fun a => Fin.ext ?_)
  match a with
  | ⟨0, _⟩ => blk_simp [idx_5]; try simp
  | ⟨1, _⟩ => blk_simp [idx_5]; try simp

/-- A load of a whole block reads the block. -/
theorem ld_full {S : Shape} {e : EltTy} (x : Vec F S e) {off : Fin S.rank → ℕ} (inb : ∀ a, off a + S.size a ≤ S.size a) (h : ∀ a, off a = 0) :
    View.ld x (Rect.unit off S.size inb) = x := by
  funext y
  refine congrArg x (funext fun a => Fin.ext ?_)
  show off a + 1 * (y a).val = (y a).val
  rw [h a]; omega

/-- The origin of a matrix. -/
theorem zero2 : ∀ a : Fin 2, (![0, 0] : Fin 2 → ℕ) a = 0 := by decide

/-- The row maxima that are stored are those that the codes use. -/
theorem pay7_eq (x0 x1 x2 x3 x4 x5) : k0_pay7 (F := F) x0 x1 x2 x3 x4 x5 = k0_pay5 x0 x1 x2 x3 x4 x5 := by
  unfold k0_pay7
  rw [ld_full x0 _ zero2, ld_full x1 _ zero2, ld_full x2 _ zero2, ld_full x3 _ zero2, ld_full x4 _ zero2, ld_full x5 _ zero2]

/-- The codes the body leaves, from its operands. -/
theorem out6_eq (x0 x1 x2 x3 x4 x5) : out0_6 (F := F) x0 x1 x2 x3 x4 x5 = k0_pay2 (k0_pay4 x0 x1 x2 x3 x4 x5) (k0_pay5 x0 x1 x2 x3 x4 x5) k0_pay6 := by
  unfold out0_6 k0_pay8
  rw [pay7_eq, ld_full x0 _ zero2, ld_full x1 _ zero2, ld_full x2 _ zero2, ld_full x3 _ zero2, ld_full x4 _ zero2, ld_full x5 _ zero2]
  exact View.canon_cons_unit_lit _ _ [] zero2

/-- The scales the body leaves, from its operands. -/
theorem out7_eq (x0 x1 x2 x3 x4 x5) : out0_7 (F := F) x0 x1 x2 x3 x4 x5 = k0_pay3 (k0_pay5 x0 x1 x2 x3 x4 x5) k0_pay6 := by
  unfold out0_7 k0_pay8
  rw [pay7_eq]
  exact View.canon_cons_unit_lit _ _ [] zero2

/-- The codes array after the run. -/
theorem codes_arr (c : Dev nD) : (dats m 0 c).arrAt 6 cfg0.N = k0_pay2 (hid m c) (amx m c) k0_pay6 := by
  refine (dats m 0 c).arrAt_eq_of_covers 6 _ (by decide +kernel) fun t hf y => ?_
  rw [after0_6, out6_eq, iblk_0, iblk_1, iblk_2, iblk_3, iblk_4, iblk_5]
  refine congrArg (k0_pay2 (hid m c) (amx m c) k0_pay6) (funext fun a => Fin.ext ?_)
  match a with
  | ⟨0, _⟩ => blk_simp [idx_6]; try simp
  | ⟨1, _⟩ => blk_simp [idx_6]; try simp

/-- The scales array after the run. -/
theorem scales_arr (c : Dev nD) : (dats m 0 c).arrAt 7 cfg0.N = k0_pay3 (amx m c) k0_pay6 := by
  refine (dats m 0 c).arrAt_eq_of_covers 7 _ (by decide +kernel) fun t hf y => ?_
  rw [after0_7, out7_eq, iblk_0, iblk_1, iblk_2, iblk_3, iblk_4, iblk_5]
  refine congrArg (k0_pay3 (amx m c) k0_pay6) (funext fun a => Fin.ext ?_)
  match a with
  | ⟨0, _⟩ => blk_simp [idx_7]; try simp
  | ⟨1, _⟩ => blk_simp [idx_7]; try simp

/-- THE REFERENCE'S RESULTS: every execution terminates with the two arrays as its payloads say and the arguments
    unchanged. -/
theorem results : θ_run defs (onTc (τ := τ) (main (F := F))) ⟨m, fun _ => 0, ρ⟩ (fun r => ∀ c : Dev nD,
      r.2.mem ((c.tc : Thread nD τ).loc main_v2_0) = k0_pay2 (hid m c) (amx m c) k0_pay6
      ∧ r.2.mem ((c.tc : Thread nD τ).loc main_v2_1) = k0_pay3 (amx m c) k0_pay6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 6).trans (codes_arr m c), ((h.1 c).1 7).trans (scales_arr m c), h.2 c⟩)
    (θ_run_and (run_main m ρ) (unchanged m ρ))

end Cert.ReferenceIdeal.Hand
end
-- ==== Proof.Exponent.lean ====
module

public import Idealize.ShloMosaic.PureOps.Ideal
public import Idealize.ShloMosaic.PureOps.Ideal.Laws
public import Idealize.ShloMosaic.PureOps.Vector
public import Mathlib.Analysis.SpecialFunctions.Log.Basic

@[expose] public section

/-! # The exponent of a number, two ways

The kernel finds the exponent field of `q` by an eight-step search over the words of the powers of two and builds `2^(e+1)`
and `2^-(e+1)` from the field; the reference writes the exponent as `floor (log q / log 2) + 1`. Over the extended
reals the two are the same number. -/

noncomputable section

namespace Cert.Hand
open Idealize.ShloMosaic

variable {F : FTy → Type} [FloatOps F]

/-- The word whose exponent field is `k` and whose other fields are zero. -/
def ew (k : ℕ) : BitVec 32 := BitVec.ofNat 32 (k * 2 ^ 23)

/-- One step of the search: take the larger word if the number it denotes is at most `q`. -/
def step (q : F .f32) (b w : BitVec 32) : BitVec 32 :=
  Scalar.select (FloatOps.cmpf .oge q (FloatOps.ofBits .f32 (IntOp.addi w b))) (IntOp.addi w b) w

/-- The search's first three steps. -/
def search3 (q : F .f32) : BitVec 32 := step q 268435456#32 (step q 536870912#32 (step q 1073741824#32 0#32))

/-- The search's remaining five steps. -/
def search5 (q : F .f32) (w : BitVec 32) : BitVec 32 :=
  step q 8388608#32 (step q 16777216#32 (step q 33554432#32 (step q 67108864#32 (step q 134217728#32 w))))

/-- The field of a word, 126 if it is not a normal number's. -/
def field (b : BitVec 32) : BitVec 32 :=
  Scalar.select (IntOp.andi (IntOp.cmpi .sgt (IntOp.shrsi .vector b 23#32) 0#32) (IntOp.cmpi .slt (IntOp.shrsi .vector b 23#32) 255#32))
    (IntOp.shrsi .vector b 23#32) 126#32

/-- The exponent field the kernel computes for `q`. -/
def fieldOf (q : F .f32) : BitVec 32 :=
  field (Scalar.select (FloatOps.cmpf .olt q (Scalar.ofBits .f32 0x7B800000#32)) (search5 q (search3 q)) 2139095040#32)

/-- The kernel's scale: the float with exponent field one more than `q`'s. -/
def scaleBits (q : F .f32) : F .f32 := FloatOps.ofBits .f32 (IntOp.shli .vector (IntOp.addi (fieldOf q) 1#32) 23#32)

/-- The word of the kernel's reciprocal scale. -/
def invWord (q : F .f32) : BitVec 32 := IntOp.shli .vector (IntOp.subi 253#32 (fieldOf q)) 23#32

/-- The reference's exponent. -/
def refExp (q t : F .f32) : F .f32 :=
  Scalar.select (IntOp.andi (FloatOps.cmpf .oge q t) (FloatOps.cmpf .olt q (Scalar.ofBits .f32 0x7B800000#32)))
    (FloatOps.addf (FloatOps.floor (FloatOps.divf (FloatOps.log q) (FloatOps.log (Scalar.ofBits .f32 0x40000000#32)))) (Scalar.ofBits .f32 0x3F800000#32))
    (Scalar.ofBits .f32 0x00000000#32)

/-! ## Words of powers of two -/

/-- The word with exponent field `n` has sign 0, exponent `n` and fraction 0. -/
theorem ew_fields : ∀ n : Fin 256, ((ew n).extractLsb' 31 1 = 0#1) ∧ ((ew n).extractLsb' 23 8).toNat = n.val ∧ ((ew n).extractLsb' 0 23).toNat = 0 := by
  decide +kernel

/-- A word with exponent field `n` in 1..254 and zero fraction denotes `2^(n - 127)`. -/
theorem ofBits_ew (n : ℕ) (h1 : 1 ≤ n) (h2 : n ≤ 254) : Ideal.ofBits .f32 (ew n) = (((2 : ℝ) ^ ((n : ℤ) - 127) : ℝ) : EReal) := by
  obtain ⟨hn, he, hf⟩ := ew_fields ⟨n, by omega⟩
  have hn' : (ew n).extractLsb' (8 + 23) 1 = 0#1 := hn
  simp only [Ideal.ofBits, Ideal.ieee]
  simp only at he hf
  rw [hn', he, hf, if_neg (by norm_num; omega), if_neg (by omega)]
  refine congrArg _ ?_
  rw [if_neg (by decide), Nat.add_zero]
  push_cast
  norm_num
  rw [show (8388608 : ℝ) = 2 ^ (23 : ℤ) by norm_num, ← zpow_add₀ (by norm_num)]
  congr 1
  ring

/-- Exponent field 255 with zero fraction is infinity. -/
theorem ofBits_ew_255 : Ideal.ofBits .f32 (ew 255) = ⊤ := by
  obtain ⟨hn, he, hf⟩ := ew_fields ⟨255, by omega⟩
  have hn' : (ew 255).extractLsb' (8 + 23) 1 = 0#1 := hn
  simp only [Ideal.ofBits, Ideal.ieee]
  simp only at he hf
  rw [hn', he, hf, if_pos (by norm_num), if_pos rfl, if_neg (by decide)]

/-! ## The search -/

/-- `n` is the greatest exponent field whose power of two is at most `q` (0 if there is none). -/
def Thr (q : EReal) (n : ℕ) : Prop := ∀ k : ℕ, 1 ≤ k → k ≤ 255 → (Ideal.ofBits .f32 (ew k) ≤ q ↔ k ≤ n)

/-- The same step on exponent fields. -/
def nstep (n d k : ℕ) : ℕ := if k + d ≤ n then k + d else k

/-- One step of the search, on exponent fields. -/
theorem step_ew {q : Ideal .f32} {n : ℕ} (h : Thr q n) (d k : ℕ) (h1 : 1 ≤ k + d) (h2 : k + d ≤ 255) :
    step q (ew d) (ew k) = ew (nstep n d k) := by
  have ea : IntOp.addi (ew k) (ew d) = ew (k + d) := by
    unfold IntOp.addi ew
    rw [Nat.add_mul, BitVec.ofNat_add]
  unfold step nstep
  rw [ea]
  have hc : (FloatOps.cmpf .oge q (FloatOps.ofBits .f32 (ew (k + d))) : BitVec 1) = BitVec.ofBool (decide (k + d ≤ n)) :=
    congrArg BitVec.ofBool (decide_eq_decide.mpr (h (k + d) h1 h2))
  rw [hc]
  unfold Scalar.select
  by_cases hk : k + d ≤ n
  · rw [if_pos hk, decide_eq_true hk]; exact if_pos (by decide)
  · rw [if_neg hk, decide_eq_false hk]; exact if_neg (by decide)

/-- No step of the search tries an exponent field above 255, and the eight steps end at `n`. -/
theorem nsearch : ∀ n : Fin 255, nstep n 128 0 + 64 ≤ 255 ∧ nstep n 64 (nstep n 128 0) + 32 ≤ 255
    ∧ nstep n 32 (nstep n 64 (nstep n 128 0)) + 16 ≤ 255
    ∧ nstep n 16 (nstep n 32 (nstep n 64 (nstep n 128 0))) + 8 ≤ 255
    ∧ nstep n 8 (nstep n 16 (nstep n 32 (nstep n 64 (nstep n 128 0)))) + 4 ≤ 255
    ∧ nstep n 4 (nstep n 8 (nstep n 16 (nstep n 32 (nstep n 64 (nstep n 128 0))))) + 2 ≤ 255
    ∧ nstep n 2 (nstep n 4 (nstep n 8 (nstep n 16 (nstep n 32 (nstep n 64 (nstep n 128 0)))))) + 1 ≤ 255
    ∧ nstep n 1 (nstep n 2 (nstep n 4 (nstep n 8 (nstep n 16 (nstep n 32 (nstep n 64 (nstep n 128 0))))))) = n.val := by
  decide +kernel

/-- The search finds the word of the greatest power of two at most `q`. -/
theorem search_eq {q : Ideal .f32} {n : ℕ} (h : Thr q n) (hn : n ≤ 254) : search5 q (search3 q) = ew n := by
  obtain ⟨b1, b2, b3, b4, b5, b6, b7, e⟩ := nsearch ⟨n, by omega⟩
  simp only at b1 b2 b3 b4 b5 b6 b7 e
  unfold search5 search3
  rw [show (1073741824#32) = ew 128 by decide, show (536870912#32) = ew 64 by decide, show (268435456#32) = ew 32 by decide,
    show (134217728#32) = ew 16 by decide, show (67108864#32) = ew 8 by decide, show (33554432#32) = ew 4 by decide,
    show (16777216#32) = ew 2 by decide, show (8388608#32) = ew 1 by decide, show (0#32) = ew 0 by decide,
    step_ew h 128 0 (by omega) (by omega), step_ew h 64 _ (by omega) b1, step_ew h 32 _ (by omega) b2, step_ew h 16 _ (by omega) b3,
    step_ew h 8 _ (by omega) b4, step_ew h 4 _ (by omega) b5, step_ew h 2 _ (by omega) b6, step_ew h 1 _ (by omega) b7, e]

/-- The exponent field used for the word with field `n`: 126 stands for zero. -/
theorem field_ew : ∀ n : Fin 255, field (ew n) = if n.val = 0 then 126#32 else BitVec.ofNat 32 n.val := by decide +kernel

/-- The exponent field used for the word of infinity is 126. -/
theorem field_inf : field 2139095040#32 = 126#32 := by decide +kernel

/-- The word of the scale has exponent field `n + 1`. -/
theorem scale_word : ∀ n : Fin 255, IntOp.shli .vector (IntOp.addi (BitVec.ofNat 32 n.val) 1#32) 23#32 = ew (n.val + 1) := by decide +kernel

/-- The word of the inverse scale has exponent field `253 - n`. -/
theorem inv_word : ∀ n : Fin 254, IntOp.shli .vector (IntOp.subi 253#32 (BitVec.ofNat 32 n.val)) 23#32 = ew (253 - n.val) := by decide +kernel

/-! ## The three ranges of `q` -/

/-- The upper bound of the normal range is `2^120`. -/
theorem ofBits_120 : Ideal.ofBits .f32 0x7B800000#32 = (((2 : ℝ) ^ (120 : ℤ) : ℝ) : EReal) :=
  (congrArg _ (show (0x7B800000#32) = ew 247 by decide)).trans (ofBits_ew 247 (by omega) (by omega))

/-- The lower bound of the normal range is `2^-126`. -/
theorem ofBits_m126 : Ideal.ofBits .f32 0x00800000#32 = (((2 : ℝ) ^ (-126 : ℤ) : ℝ) : EReal) :=
  (congrArg _ (show (0x00800000#32) = ew 1 by decide)).trans (ofBits_ew 1 (by omega) (by omega))

/-- The word of one. -/
theorem ofBits_one : Ideal.ofBits .f32 0x3F800000#32 = 1 :=
  (congrArg _ (show (0x3F800000#32) = ew 127 by decide)).trans ((ofBits_ew 127 (by omega) (by omega)).trans (by norm_num))

/-- The word of two. -/
theorem ofBits_two : Ideal.ofBits .f32 0x40000000#32 = ((2 : ℝ) : EReal) :=
  (congrArg _ (show (0x40000000#32) = ew 128 by decide)).trans ((ofBits_ew 128 (by omega) (by omega)).trans (by norm_num))

/-- Below the smallest normal number the search finds nothing. -/
theorem thr_low {q : EReal} (h : q < Ideal.ofBits .f32 0x00800000#32) : Thr q 0 := by
  intro k h1 h2
  refine iff_of_false (not_le.mpr (lt_of_lt_of_le h ?_)) (by omega)
  rw [ofBits_m126]
  rcases Nat.lt_or_ge k 255 with hk | hk
  · rw [ofBits_ew k h1 (by omega), EReal.coe_le_coe_iff]
    exact zpow_le_zpow_right₀ (by norm_num) (by omega)
  · rw [show k = 255 by omega, ofBits_ew_255]; exact le_top

/-- An integer power of two is at most `r` exactly when its exponent is at most `floor (log2 r)`. -/
theorem zpow_le_iff {r : ℝ} (hr : 0 < r) (k : ℤ) : (2 : ℝ) ^ k ≤ r ↔ k ≤ ⌊Real.log r / Real.log 2⌋ := by
  have h2 : 0 < Real.log 2 := Real.log_pos (by norm_num)
  rw [Int.le_floor, le_div_iff₀ h2, ← Real.log_zpow, Real.log_le_log_iff (by positivity) hr]

/-- In the normal range the search finds `floor (log2 q) + 127`. -/
theorem thr_mid {r : ℝ} (hr : 0 < r) (z : ℤ) (hz : z = ⌊Real.log r / Real.log 2⌋) (hz0 : -127 ≤ z) (hz1 : z < 128) :
    Thr (r : EReal) (z + 127).toNat := by
  intro k h1 h2
  rcases Nat.lt_or_ge k 255 with hk | hk
  · rw [ofBits_ew k h1 (by omega), EReal.coe_le_coe_iff, zpow_le_iff hr, ← hz]
    omega
  · rw [show k = 255 by omega, ofBits_ew_255]
    exact iff_of_false (by simp) (by omega)

/-- "At least" over the extended reals. -/
theorem cmp_oge (x y : EReal) : (FloatOps.cmpf (F := Ideal) (φ := .f32) .oge x y) = BitVec.ofBool (decide (y ≤ x)) := rfl
/-- "Less than" over the extended reals. -/
theorem cmp_olt (x y : EReal) : (FloatOps.cmpf (F := Ideal) (φ := .f32) .olt x y) = BitVec.ofBool (decide (x < y)) := rfl

/-- A selection whose condition holds. -/
theorem sel_true {α : Type} (a b : α) {p : Prop} [Decidable p] (h : p) : Scalar.select (BitVec.ofBool (decide p)) a b = a := by
  rw [decide_eq_true h]; exact if_pos (by decide)
/-- A selection whose condition fails. -/
theorem sel_false {α : Type} (a b : α) {p : Prop} [Decidable p] (h : ¬p) : Scalar.select (BitVec.ofBool (decide p)) a b = b := by
  rw [decide_eq_false h]; exact if_neg (by decide)

/-- The number `q` lies in the range whose exponent is used. -/
def InRange (q : EReal) : Prop := Ideal.ofBits .f32 0x00800000#32 ≤ q ∧ q < Ideal.ofBits .f32 0x7B800000#32

/-- Outside the range the kernel's field is 126. -/
theorem fieldOf_out {q : Ideal .f32} (h : ¬ InRange q) : fieldOf q = 126#32 := by
  unfold fieldOf
  rw [cmp_olt]
  by_cases hq : (q : EReal) < Scalar.ofBits (F := Ideal) .f32 0x7B800000#32
  · rw [sel_true _ _ hq, search_eq (n := 0) (thr_low (lt_of_not_ge fun h' => h ⟨h', hq⟩)) (by omega)]
    exact field_ew ⟨0, by omega⟩
  · rw [sel_false _ _ hq, field_inf]

/-- In the range `q` is a real number, and the kernel's field is `floor (log2 q) + 127`. -/
theorem fieldOf_in {q : Ideal .f32} (h : InRange q) : ∃ r : ℝ, q = (r : EReal) ∧ 0 < r ∧ -126 ≤ ⌊Real.log r / Real.log 2⌋ ∧ ⌊Real.log r / Real.log 2⌋ < 120
    ∧ fieldOf q = BitVec.ofNat 32 (⌊Real.log r / Real.log 2⌋ + 127).toNat := by
  obtain ⟨h1, h2⟩ := h
  have hq : (q : EReal) < Scalar.ofBits (F := Ideal) .f32 0x7B800000#32 := h2
  rw [ofBits_m126] at h1
  rw [ofBits_120] at h2
  induction q using EReal.rec with
  | bot => exact absurd h1 (by simp)
  | top => exact absurd h2 (by simp)
  | coe r =>
    rw [EReal.coe_le_coe_iff] at h1
    rw [EReal.coe_lt_coe_iff] at h2
    have hr : 0 < r := lt_of_lt_of_le (by positivity) h1
    have z0 := (zpow_le_iff hr _).mp h1
    have z1 : ¬ (120 : ℤ) ≤ ⌊Real.log r / Real.log 2⌋ := fun h => absurd ((zpow_le_iff hr _).mpr h) (not_le.mpr h2)
    refine ⟨r, rfl, hr, z0, by omega, ?_⟩
    unfold fieldOf
    rw [cmp_olt, sel_true _ _ hq, search_eq (thr_mid hr _ rfl (by omega) (by omega)) (by omega)]
    refine (field_ew ⟨(⌊Real.log r / Real.log 2⌋ + 127).toNat, by omega⟩).trans (if_neg ?_)
    show (⌊Real.log r / Real.log 2⌋ + 127).toNat ≠ 0
    omega

/-- The conjunction of two conditions, as bits. -/
theorem and_dec {p q : Prop} [Decidable p] [Decidable q] [Decidable (p ∧ q)] :
    IntOp.andi (BitVec.ofBool (decide p)) (BitVec.ofBool (decide q)) = BitVec.ofBool (decide (p ∧ q)) := by
  by_cases a : p <;> by_cases b : q <;> simp [a, b, IntOp.andi]

/-- Outside the range the reference's exponent is 0. -/
theorem refExp_out {q : Ideal .f32} (h : ¬ InRange q) : refExp q (Scalar.ofBits .f32 0x00800000#32) = (0 : EReal) := by
  unfold refExp
  rw [cmp_oge, cmp_olt, and_dec]
  exact (sel_false _ _ (show ¬(FloatOps.ofBits (F := Ideal) .f32 8388608#32 ≤ q ∧ q < FloatOps.ofBits (F := Ideal) .f32 2071986176#32) from h)).trans Ideal.ofBits_zero_f32

/-- In the range it is `floor (log2 q) + 1`. -/
theorem refExp_in {r : ℝ} (hr : 0 < r) (h : InRange (r : EReal)) :
    refExp (F := Ideal) (r : EReal) (Scalar.ofBits .f32 0x00800000#32) = (((⌊Real.log r / Real.log 2⌋ + 1 : ℤ) : ℝ) : EReal) := by
  unfold refExp
  rw [cmp_oge, cmp_olt, and_dec]
  refine (sel_true _ _ (show (FloatOps.ofBits (F := Ideal) .f32 8388608#32 ≤ (r : EReal) ∧ (r : EReal) < FloatOps.ofBits (F := Ideal) .f32 2071986176#32) from h)).trans ?_
  have h2 : Real.log 2 ≠ 0 := (Real.log_pos (by norm_num)).ne'
  show Ideal.liftRound Int.floor (Ideal.div (Ideal.log (r : EReal)) (Ideal.log (Ideal.ofBits .f32 0x40000000#32))) + Ideal.ofBits .f32 0x3F800000#32 = _
  rw [ofBits_two, ofBits_one, Ideal.log_coe, Ideal.log_coe, if_neg (not_le.mpr hr), if_neg (by norm_num), Ideal.div_coe h2, ← EReal.coe_mul,
    mul_one_div]
  show ((⌊Real.log r / Real.log 2⌋ : ℝ) : EReal) + 1 = _
  push_cast
  rfl

/-- THE SCALE: the kernel's is two to the reference's exponent. -/
theorem scale_eq (q : Ideal .f32) : scaleBits q = FloatOps.exp2 (refExp q (Scalar.ofBits .f32 0x00800000#32)) := by
  show Ideal.ofBits .f32 _ = Ideal.exp2 _
  by_cases h : InRange q
  · obtain ⟨r, rfl, hr, z0, z1, e⟩ := fieldOf_in h
    rw [refExp_in hr h, e]
    refine (congrArg _ (scale_word ⟨(⌊Real.log r / Real.log 2⌋ + 127).toNat, by omega⟩)).trans ?_
    refine (ofBits_ew _ (by simp) (by simp only; omega)).trans ?_
    rw [Ideal.exp2_coe]
    refine congrArg _ ?_
    rw [show Real.rpow 2 ((⌊Real.log r / Real.log 2⌋ + 1 : ℤ) : ℝ) = 2 ^ (⌊Real.log r / Real.log 2⌋ + 1) from Real.rpow_intCast _ _]
    congr 1
    push_cast
    omega
  · rw [refExp_out h, fieldOf_out h]
    refine (congrArg (Ideal.ofBits .f32) (show _ = 0x3F800000#32 by decide +kernel)).trans (ofBits_one.trans ?_)
    rw [← EReal.coe_zero, Ideal.exp2_coe]
    simp

/-- THE RECIPROCAL SCALE: the kernel's is two to minus the reference's exponent. -/
theorem inv_eq (q : Ideal .f32) : (FloatOps.ofBits .f32 (invWord q) : Ideal .f32)
    = FloatOps.exp2 (FloatOps.subf (Scalar.ofBits .f32 0x00000000#32) (refExp q (Scalar.ofBits .f32 0x00800000#32))) := by
  show Ideal.ofBits .f32 (invWord q) = Ideal.exp2 (Ideal.ofBits .f32 0x00000000#32 - _)
  unfold invWord
  rw [Ideal.ofBits_zero_f32]
  by_cases h : InRange q
  · obtain ⟨r, rfl, hr, z0, z1, e⟩ := fieldOf_in h
    rw [refExp_in hr h, e]
    refine (congrArg _ (inv_word ⟨(⌊Real.log r / Real.log 2⌋ + 127).toNat, by omega⟩)).trans ?_
    refine (ofBits_ew _ (by simp only; omega) (by simp only; omega)).trans ?_
    rw [zero_sub, ← EReal.coe_neg, Ideal.exp2_coe]
    refine congrArg _ ?_
    rw [← Int.cast_neg, show Real.rpow 2 ((-(⌊Real.log r / Real.log 2⌋ + 1) : ℤ) : ℝ) = 2 ^ (-(⌊Real.log r / Real.log 2⌋ + 1)) from Real.rpow_intCast _ _]
    congr 1
    simp only
    omega
  · rw [refExp_out h, fieldOf_out h]
    refine (congrArg (Ideal.ofBits .f32) (show _ = 0x3F800000#32 by decide +kernel)).trans (ofBits_one.trans ?_)
    rw [show (0 : EReal) - 0 = ((0 : ℝ) : EReal) by simp, Ideal.exp2_coe]
    simp

end Cert.Hand
end
-- ==== Proof.KernelAt.lean ====
module

public import proofs.«01_k».proof.Proof.Dequant
public import proofs.«01_k».proof.Proof.Exponent
public import Idealize.ShloMosaic.Lib.Tactic
public import Idealize.ShloMosaic.Lib.Pointwise
public import Idealize.ShloMosaic.PureOps.Ideal.Laws

@[expose] public section

/-! # What a grid point computes, element by element, over the extended reals -/

set_option maxRecDepth 16384

noncomputable section

namespace Cert.KernelIdeal.Hand
open Cert.KernelIdeal Cert.KernelIdeal.Gen
open Idealize.ShloMosaic Idealize.ShloMosaic.TcCoe Idealize.ShloMosaic.Tactic

variable {F : FTy → Type} [FloatOps F]

/-- One activation: `(g * logistic g) * u`, `g` and `u` the row of x times a gate row and an up row. -/
theorem h_at (X : Vec Ideal S1024x8192 .bf16) (W : Vec Ideal S256x8192 .bf16) (r : Fin 1024) (l : Fin 128) :
    k0_pay235 X W (ix2 r l)
      = (∑ x, X (ix2 r x) * W (ix2 ⟨l.val, by omega⟩ x)) * Ideal.logistic (∑ x, X (ix2 r x) * W (ix2 ⟨l.val, by omega⟩ x))
        * (∑ x, X (ix2 r x) * W (ix2 ⟨128 + l.val, by omega⟩ x) : EReal) := by
  unfold k0_pay235
  pointwise

/-- The scaled maximum of a row's magnitudes, the same in every lane. -/
theorem q_at (X : Vec Ideal S1024x8192 .bf16) (W : Vec Ideal S256x8192 .bf16) (r : Fin 1024) (l : Fin 128) :
    k0_pay236 X W (ix2 r l)
      = (Finset.fold max (Ideal.ofBits FTy.f32 4286578688#32) (fun x => FloatOps.absf (k0_pay235 X W (ix2 r x))) Finset.univ
        * Ideal.ofBits FTy.f32 991054117#32 : EReal) := by
  unfold k0_pay236
  pointwise

/-- The scale at an element, from the scaled maximum there. -/
theorem scaleOf_at (X : Vec F S1024x8192 .bf16) (W : Vec F S256x8192 .bf16) (y : S1024x128.Idx) :
    scaleOf X W y = Cert.Hand.scaleBits (k0_pay236 X W y) := rfl

/-- The code at an element: the activation times the reciprocal scale, clipped to the format's range. -/
theorem codesOf_at (X : Vec F S1024x8192 .bf16) (W : Vec F S256x8192 .bf16) (y : S1024x128.Idx) :
    codesOf X W y = FloatOps.truncf .fp8e4m3 bitsLt_fp8e4m3_f32 (FloatOps.minimumf (Scalar.ofBits .f32 0x43E00000#32)
      (FloatOps.maximumf (Scalar.ofBits .f32 0xC3E00000#32) (FloatOps.mulf (k0_pay235 X W y) (FloatOps.ofBits .f32 (Cert.Hand.invWord (k0_pay236 X W y)))))) := rfl

end Cert.KernelIdeal.Hand
end
-- ==== Proof.ReferenceAt.lean ====
module

public import proofs.«01_k».proof.Proof.Gen.ReferenceIdeal.Skeleton
public import proofs.«01_k».proof.Proof.Exponent
public import Idealize.ShloMosaic.Lib.Tactic
public import Idealize.ShloMosaic.Lib.Pointwise
public import Idealize.ShloMosaic.PureOps.Ideal.Laws

@[expose] public section

/-! # What the reference computes, element by element, over the extended reals -/

set_option maxRecDepth 16384

noncomputable section

namespace Cert.ReferenceIdeal.Hand
open Cert.ReferenceIdeal Cert.ReferenceIdeal.Gen
open Idealize.ShloMosaic Idealize.ShloMosaic.TcCoe Idealize.ShloMosaic.Tactic

variable {F : FTy → Type} [FloatOps F]

/-- One activation: `(g * logistic g) * u`, `g` and `u` the row of x times a gate row and an up row, every element a code
    times its scale. -/
theorem h_at (v0 : Vec Ideal S2048x8192 .fp8e4m3) (v3 : Vec Ideal S2048x64 .f32) (v10 : Vec Ideal S3584x8192 .fp8e4m3) (v11 : Vec Ideal S28x64 .f32)
    (v22 : Vec Ideal S3584x8192 .fp8e4m3) (v23 : Vec Ideal S28x64 .f32) (r : Fin 2048) (j : Fin 28) (l : Fin 128) :
    k0_pay4 v0 v3 v10 v11 v22 v23 (ix3 r j l)
      = (∑ x : Fin 8192, v0 (ix2 r x) * v3 (ix2 r ⟨x.val / 128, by omega⟩) * (v10 (ix2 ⟨j.val * 128 + l.val, by omega⟩ x) * v11 (ix2 j ⟨x.val / 128, by omega⟩)))
        * Ideal.logistic (∑ x : Fin 8192, v0 (ix2 r x) * v3 (ix2 r ⟨x.val / 128, by omega⟩) * (v10 (ix2 ⟨j.val * 128 + l.val, by omega⟩ x) * v11 (ix2 j ⟨x.val / 128, by omega⟩)))
        * (∑ x : Fin 8192, v0 (ix2 r x) * v3 (ix2 r ⟨x.val / 128, by omega⟩) * (v22 (ix2 ⟨j.val * 128 + l.val, by omega⟩ x) * v23 (ix2 j ⟨x.val / 128, by omega⟩)) : EReal) := by
  unfold k0_pay4
  pointwise

/-- The maximum over the last of three axes, read at an element. -/
theorem max3_at {N J L : ℕ} (H : FVec Ideal ⟨3, ![N, J, L]⟩ .f32) (h : (⟨3, ![N, J, L]⟩ : Shape).Reduces [2] ⟨2, ![N, J]⟩) (hφ) (hacc) (r : Fin N) (j : Fin J) :
    multiReduction .maximumf [2] ⟨2, ![N, J]⟩ H 0xFF800000#32 h hφ hacc (ix2 r j)
      = Finset.fold max (Ideal.ofBits FTy.f32 4286578688#32) (fun x => H (ix3 r j x)) Finset.univ := by
  refine (Ideal.multiReduction_maximumf_single H 0xFF800000#32 h hφ hacc (ix2 r j)).trans ?_
  refine congrArg (fun f => Finset.fold max (Ideal.ofBits FTy.f32 4286578688#32) f Finset.univ) (funext fun x => ?_)
  refine congrArg H (funext fun a => Fin.ext ?_)
  match a with
  | ⟨0, _⟩ => rfl
  | ⟨1, _⟩ => rfl
  | ⟨2, _⟩ => rfl

/-- The scaled maximum of the last axis' magnitudes. -/
def scaledMax (H : FVec F S2048x28x128 .f32) : FVec F S2048x28 .f32 :=
  mulf (multiReduction .maximumf [2] S2048x28 (absf H) 0xFF800000#32 reduces_S2048x28x128_S2048x28 (.inl rfl) rfl) (broadcast S2048x28 (Scalar.ofBits .f32 0x3B124925#32))

/-- The reference's scaled row maxima are those of its activations. -/
theorem pay5_eq (v0 : Vec F S2048x8192 .fp8e4m3) (v3 : Vec F S2048x64 .f32) (v10 : Vec F S3584x8192 .fp8e4m3) (v11 : Vec F S28x64 .f32)
    (v22 : Vec F S3584x8192 .fp8e4m3) (v23 : Vec F S28x64 .f32) :
    k0_pay5 v0 v3 v10 v11 v22 v23 = scaledMax (k0_pay4 v0 v3 v10 v11 v22 v23) := rfl

/-- The reference's row maximum read at an element. -/
theorem rowMax_at (H : FVec Ideal S2048x28x128 .f32) (r : Fin 2048) (j : Fin 28) :
   multiReduction .maximumf [2] S2048x28 (absf H) 0xFF800000#32 reduces_S2048x28x128_S2048x28 (.inl rfl) rfl (ix2 r j) =
   Finset.fold max (Ideal.ofBits FTy.f32 4286578688#32) (fun x => absf H (ix3 r j x)) Finset.univ := max3_at (absf H) reduces_S2048x28x128_S2048x28 (.inl rfl) rfl r j

/-- A scaled row maximum read at an element. -/
theorem scaledMax_apply (H : FVec F S2048x28x128 .f32) (y : S2048x28.Idx) :
    scaledMax H y = FloatOps.mulf (multiReduction .maximumf [2] S2048x28 (absf H) 0xFF800000#32 reduces_S2048x28x128_S2048x28 (.inl rfl) rfl y) (Scalar.ofBits .f32 0x3B124925#32) := rfl
/-- An absolute value read at an element. -/
theorem absf_apply (H : FVec F S2048x28x128 .f32) (y : S2048x28x128.Idx) : absf H y = FloatOps.absf (H y) := rfl

/-- The scaled maximum read at an element: the greatest magnitude of the 128, times the constant. -/
theorem scaledMax_at (H : FVec Ideal S2048x28x128 .f32) (r : Fin 2048) (j : Fin 28) :
    scaledMax H (ix2 r j)
      = (Finset.fold max (Ideal.ofBits FTy.f32 4286578688#32) (fun x => FloatOps.absf (H (ix3 r j x))) Finset.univ
        * Ideal.ofBits FTy.f32 991054117#32 : EReal) := by
  rw [scaledMax_apply, rowMax_at, Ideal.mulf_def, Ideal.ofBits_def]
  simp only [absf_apply]

/-- The exponent at an element, from the scaled maximum there. -/
theorem pay1_at (q t : FVec F S2048x28 .f32) (y : S2048x28.Idx) : k0_pay1 q t y = Cert.Hand.refExp (q y) (t y) := rfl

/-- The scale at an element: two to the exponent. -/
theorem pay3_at (q : FVec F S2048x28 .f32) (y : S2048x28.Idx) :
    k0_pay3 q k0_pay6 y = FloatOps.exp2 (Cert.Hand.refExp (q y) (Scalar.ofBits .f32 0x00800000#32)) := rfl

/-- The code at an element: the activation times two to minus the exponent, clipped to the format's range. -/
theorem pay2_at (h : FVec Ideal S2048x28x128 .f32) (q : FVec Ideal S2048x28 .f32) (r : Fin 2048) (k : Fin 3584) :
    k0_pay2 h q k0_pay6 (ix2 r k) = min (Ideal.ofBits FTy.f32 1138753536#32) (max (Ideal.ofBits FTy.f32 3286237184#32)
        (h (ix3 r ⟨k.val / 128, by omega⟩ ⟨k.val % 128, by omega⟩)
          * FloatOps.exp2 (FloatOps.subf (Scalar.ofBits .f32 0x00000000#32) (Cert.Hand.refExp (q (ix2 r ⟨k.val / 128, by omega⟩)) (Scalar.ofBits .f32 0x00800000#32))) : EReal)) := by
  unfold k0_pay2
  pointwise
  simp only [pay1_at]
  rfl

end Cert.ReferenceIdeal.Hand
end
-- ==== Proof.Meet.lean ====
module

public import proofs.«01_k».proof.Proof.KernelAt
public import proofs.«01_k».proof.Proof.ReferenceAt
public import proofs.«01_k».proof.Proof.Blocks

@[expose] public section

/-! # The kernel's elements are the reference's, over the extended reals

Row `y` of block row `b` is row `1024 b + y`; lane `l` of group `j` is column `128 j + l`. -/

set_option maxRecDepth 16384

noncomputable section

namespace Cert.Meet
open Cert.KernelIdeal Cert.KernelIdeal.Gen Cert.KernelIdeal.Hand
open Idealize.ShloMosaic Idealize.ShloMosaic.TcCoe Idealize.ShloMosaic.Tactic

variable (A0 : Vec Ideal S2048x8192 .fp8e4m3) (A1 : Vec Ideal S2048x64 .f32) (A2 A4 : Vec Ideal S3584x8192 .fp8e4m3) (A3 A5 : Vec Ideal S28x64 .f32)

/-- A dequantised element is the product of its code and its scale. -/
theorem deq_ideal (c : Ideal .fp8e4m3) (s : Ideal .f32) : deq c s = (c * s : EReal) := rfl

/-- An element of the dequantised x block. -/
theorem xrow_at (b : Fin 2) (r : Fin 1024) (x : Fin 8192) :
    xrow A0 A1 b (ix2 r x) = (A0 (ix2 (xr b r) x) * A1 (ix2 (xr b r) ⟨x.val / 128, by omega⟩) : EReal) := by
  unfold xrow
  refine (congrArg₂ deq (congrArg A0 (funext fun a => ?_)) (congrArg A1 (funext fun a => ?_))).trans (deq_ideal _ _)
  · match a with
    | ⟨0, _⟩ => rfl
    | ⟨1, _⟩ => rfl
  · match a with
    | ⟨0, _⟩ => rfl
    | ⟨1, _⟩ => rfl

/-- An element of a gate row of the dequantised weight block. -/
theorem wgate_at (j : Fin 28) (l : Fin 128) (x : Fin 8192) :
    wblk A2 A4 A3 A5 j (ix2 ⟨l.val, by omega⟩ x) = (A2 (ix2 ⟨j.val * 128 + l.val, by omega⟩ x) * A3 (ix2 j ⟨x.val / 128, by omega⟩) : EReal) := by
  unfold wblk wdeq
  refine (dif_pos l.isLt).trans ?_
  refine (congrArg₂ deq (congrArg A2 (funext fun a => ?_)) (congrArg A3 (funext fun a => ?_))).trans (deq_ideal _ _)
  · match a with
    | ⟨0, _⟩ => exact Fin.ext (show 128 * j.val + l.val = j.val * 128 + l.val by omega)
    | ⟨1, _⟩ => rfl
  · match a with
    | ⟨0, _⟩ => rfl
    | ⟨1, _⟩ => rfl

/-- An element of an up row of the dequantised weight block. -/
theorem wup_at (j : Fin 28) (l : Fin 128) (x : Fin 8192) :
    wblk A2 A4 A3 A5 j (ix2 ⟨128 + l.val, by omega⟩ x) = (A4 (ix2 ⟨j.val * 128 + l.val, by omega⟩ x) * A5 (ix2 j ⟨x.val / 128, by omega⟩) : EReal) := by
  unfold wblk wdeq
  refine (dif_neg (show ¬ (128 + l.val < 128) by omega)).trans ?_
  refine (congrArg₂ deq (congrArg A4 (funext fun a => ?_)) (congrArg A5 (funext fun a => ?_))).trans (deq_ideal _ _)
  · match a with
    | ⟨0, _⟩ => exact Fin.ext (show 128 * j.val + (128 + l.val - 128) = j.val * 128 + l.val by omega)
    | ⟨1, _⟩ => rfl
  · match a with
    | ⟨0, _⟩ => rfl
    | ⟨1, _⟩ => rfl

/-- The reference's activations of these operands. -/
abbrev refH : FVec Ideal Cert.ReferenceIdeal.S2048x28x128 .f32 := Cert.ReferenceIdeal.Gen.k0_pay4 (F := Ideal) A0 A1 A2 A3 A4 A5
/-- The reference's scaled maxima of these operands. -/
abbrev refQ : FVec Ideal Cert.ReferenceIdeal.S2048x28 .f32 := Cert.ReferenceIdeal.Gen.k0_pay5 (F := Ideal) A0 A1 A2 A3 A4 A5

/-- THE ACTIVATIONS agree. -/
theorem h_eq (b : Fin 2) (j : Fin 28) (r : Fin 1024) (l : Fin 128) :
    k0_pay235 (xrow A0 A1 b) (wblk A2 A4 A3 A5 j) (ix2 r l) = refH A0 A1 A2 A4 A3 A5 (ix3 (xr b r) j l) := by
  refine (h_at _ _ r l).trans (Eq.trans ?_ (Cert.ReferenceIdeal.Hand.h_at A0 A1 A2 A3 A4 A5 (xr b r) j l).symm)
  simp only [xrow_at, wgate_at, wup_at]

/-- THE SCALED MAXIMA agree, in every lane. -/
theorem q_eq (b : Fin 2) (j : Fin 28) (r : Fin 1024) (l : Fin 128) :
    k0_pay236 (xrow A0 A1 b) (wblk A2 A4 A3 A5 j) (ix2 r l) = refQ A0 A1 A2 A4 A3 A5 (ix2 (xr b r) j) := by
  rw [q_at, refQ, Cert.ReferenceIdeal.Hand.pay5_eq, Cert.ReferenceIdeal.Hand.scaledMax_at]
  simp only [h_eq]

/-- THE SCALES agree, in every lane. -/
theorem scale_eq (b : Fin 2) (j : Fin 28) (r : Fin 1024) (l : Fin 128) :
    scaleOf (xrow A0 A1 b) (wblk A2 A4 A3 A5 j) (ix2 r l) = Cert.ReferenceIdeal.Gen.k0_pay3 (refQ A0 A1 A2 A4 A3 A5) Cert.ReferenceIdeal.Gen.k0_pay6 (ix2 (xr b r) j) := by
  rw [scaleOf_at, q_eq, Cert.ReferenceIdeal.Hand.pay3_at, Cert.Hand.scale_eq]

/-- Clipping and conversion to the code format, over the extended reals. -/
theorem clip_ideal (x y z : Ideal .f32) : FloatOps.truncf .fp8e4m3 bitsLt_fp8e4m3_f32 (FloatOps.minimumf x (FloatOps.maximumf y z)) = (min x (max y z) : EReal) := rfl

/-- THE CODES agree. -/
theorem code_eq (b : Fin 2) (j : Fin 28) (r : Fin 1024) (l : Fin 128) (k : Fin 3584) (hk : k.val = 128 * j.val + l.val) :
    codesOf (xrow A0 A1 b) (wblk A2 A4 A3 A5 j) (ix2 r l) = Cert.ReferenceIdeal.Gen.k0_pay2 (refH A0 A1 A2 A4 A3 A5) (refQ A0 A1 A2 A4 A3 A5) Cert.ReferenceIdeal.Gen.k0_pay6 (ix2 (xr b r) k) := by
  rw [codesOf_at, h_eq, q_eq, Cert.Hand.inv_eq, clip_ideal, Cert.ReferenceIdeal.Hand.pay2_at]
  rw [show (⟨k.val / 128, by omega⟩ : Fin 28) = j from Fin.ext (show k.val / 128 = j.val by omega), show (⟨k.val % 128, by omega⟩ : Fin 128) = l from Fin.ext (show k.val % 128 = l.val by omega)]
  simp only [Ideal.mulf_def, Ideal.ofBits_def]

end Cert.Meet
end
-- ==== Proof.Algebraic.lean ====
module

public import proofs.«01_k».proof.Proof.KernelResults
public import proofs.«01_k».proof.Proof.RefResults
public import proofs.«01_k».proof.Proof.Meet
public import Idealize.ShloMosaic.Lib.Claim

@[expose] public section

/-! # The kernel and the reference end with equal results

At exact arithmetic, from equal arguments, the kernel's array of codes is the reference's, and so is its array of
scales. -/

set_option maxRecDepth 16384

noncomputable section

namespace Cert.Meet
open Cert.KernelIdeal Cert.KernelIdeal.Hand
open Idealize.ShloMosaic Idealize.ShloMosaic.TcCoe Idealize.ShloMosaic.Tactic
open Idealize.SL.Sem

section Entry
variable {F : FTy → Type} [FloatOps F]

/-- The kernel's left operand is the first argument with its two leading axes joined. -/
theorem kernel_v0 (m : (ℓ : Loc nD τ sig) → Buf (Elt F) ℓ) (c : Dev nD) :
    Cert.KernelIdeal.Gen.V m c main_v0 = shapeCast S2048x8192 (m ((c.tc : Thread nD τ).loc main_arg0)) Cert.KernelIdeal.Gen.shapeCasts_S2x1024x8192_S2048x8192 := by
  entry_read; rfl

/-- The kernel's scales of the left operand are the second argument with its two leading axes joined. -/
theorem kernel_v1 (m : (ℓ : Loc nD τ sig) → Buf (Elt F) ℓ) (c : Dev nD) :
    Cert.KernelIdeal.Gen.V m c main_v1 = shapeCast S2048x64 (m ((c.tc : Thread nD τ).loc main_arg1)) Cert.KernelIdeal.Gen.shapeCasts_S2x1024x64_S2048x64 := by
  entry_read; rfl

/-- The reference's left operand is the first argument with its two leading axes joined. -/
theorem reference_v0 (m' : (ℓ : Loc Cert.ReferenceIdeal.nD Cert.ReferenceIdeal.τ Cert.ReferenceIdeal.sig) → Buf (Elt F) ℓ) (c : Dev Cert.ReferenceIdeal.nD) :
    Cert.ReferenceIdeal.Gen.V m' c Cert.ReferenceIdeal.main_v0
      = shapeCast S2048x8192 (m' ((c.tc : Thread Cert.ReferenceIdeal.nD Cert.ReferenceIdeal.τ).loc Cert.ReferenceIdeal.main_arg0)) Cert.KernelIdeal.Gen.shapeCasts_S2x1024x8192_S2048x8192 := by
  entry_read; rfl

/-- The reference's scales of the left operand are the second argument with its two leading axes joined. -/
theorem reference_v1 (m' : (ℓ : Loc Cert.ReferenceIdeal.nD Cert.ReferenceIdeal.τ Cert.ReferenceIdeal.sig) → Buf (Elt F) ℓ) (c : Dev Cert.ReferenceIdeal.nD) :
    Cert.ReferenceIdeal.Gen.V m' c Cert.ReferenceIdeal.main_v1
      = shapeCast S2048x64 (m' ((c.tc : Thread Cert.ReferenceIdeal.nD Cert.ReferenceIdeal.τ).loc Cert.ReferenceIdeal.main_arg1)) Cert.KernelIdeal.Gen.shapeCasts_S2x1024x64_S2048x64 := by
  entry_read; rfl

end Entry

variable (m : (ℓ : Loc nD τ sig) → Buf (Elt Ideal) ℓ)
variable (m' : (ℓ : Loc Cert.ReferenceIdeal.nD Cert.ReferenceIdeal.τ Cert.ReferenceIdeal.sig) → Buf (Elt Ideal) ℓ)

/-- The two memories hold the same six arguments on device `c`. -/
abbrev Agree (c : Dev nD) : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)
  ∧ m' ((c.tc : Thread Cert.ReferenceIdeal.nD Cert.ReferenceIdeal.τ).loc Cert.ReferenceIdeal.main_arg5) = m ((c.tc : Thread nD τ).loc main_arg5)

section
variable (c : Dev nD)

/-- The reference's activations, from the operands the kernel sees. -/
abbrev refHid := refH (Cert.KernelIdeal.Gen.V m c main_v0) (Cert.KernelIdeal.Gen.V m c main_v1) (Cert.KernelIdeal.Gen.V m c main_arg2) (Cert.KernelIdeal.Gen.V m c main_arg4) (Cert.KernelIdeal.Gen.V m c main_arg3) (Cert.KernelIdeal.Gen.V m c main_arg5)

/-- The reference's scaled row maxima, from the operands the kernel sees. -/
abbrev refAmx := refQ (Cert.KernelIdeal.Gen.V m c main_v0) (Cert.KernelIdeal.Gen.V m c main_v1) (Cert.KernelIdeal.Gen.V m c main_arg2) (Cert.KernelIdeal.Gen.V m c main_arg4) (Cert.KernelIdeal.Gen.V m c main_arg3) (Cert.KernelIdeal.Gen.V m c main_arg5)

/-- From equal arguments both programs see the same left operand. -/
theorem V0_eq (h : Agree m m' c) : Cert.ReferenceIdeal.Gen.V m' c Cert.ReferenceIdeal.main_v0 = Cert.KernelIdeal.Gen.V m c main_v0 :=
  (reference_v0 m' c).trans ((congrArg (fun x => shapeCast S2048x8192 x Cert.KernelIdeal.Gen.shapeCasts_S2x1024x8192_S2048x8192) h.1).trans (kernel_v0 m c).symm)

/-- From equal arguments both programs see the same left operand's scales. -/
theorem V1_eq (h : Agree m m' c) : Cert.ReferenceIdeal.Gen.V m' c Cert.ReferenceIdeal.main_v1 = Cert.KernelIdeal.Gen.V m c main_v1 :=
  (reference_v1 m' c).trans ((congrArg (fun x => shapeCast S2048x64 x Cert.KernelIdeal.Gen.shapeCasts_S2x1024x64_S2048x64) h.2.1).trans (kernel_v1 m c).symm)

/-- From equal arguments both programs see the same gate codes. -/
theorem V2_eq (h : Agree m m' c) : Cert.ReferenceIdeal.Gen.V m' c Cert.ReferenceIdeal.main_arg2 = Cert.KernelIdeal.Gen.V m c main_arg2 :=
  (Cert.ReferenceIdeal.Gen.V_main_arg2 m' c).trans (h.2.2.1.trans (Cert.KernelIdeal.Gen.V_main_arg2 m c).symm)

/-- From equal arguments both programs see the same gate scales. -/
theorem V3_eq (h : Agree m m' c) : Cert.ReferenceIdeal.Gen.V m' c Cert.ReferenceIdeal.main_arg3 = Cert.KernelIdeal.Gen.V m c main_arg3 :=
  (Cert.ReferenceIdeal.Gen.V_main_arg3 m' c).trans (h.2.2.2.1.trans (Cert.KernelIdeal.Gen.V_main_arg3 m c).symm)

/-- From equal arguments both programs see the same up codes. -/
theorem V4_eq (h : Agree m m' c) : Cert.ReferenceIdeal.Gen.V m' c Cert.ReferenceIdeal.main_arg4 = Cert.KernelIdeal.Gen.V m c main_arg4 :=
  (Cert.ReferenceIdeal.Gen.V_main_arg4 m' c).trans (h.2.2.2.2.1.trans (Cert.KernelIdeal.Gen.V_main_arg4 m c).symm)

/-- From equal arguments both programs see the same up scales. -/
theorem V5_eq (h : Agree m m' c) : Cert.ReferenceIdeal.Gen.V m' c Cert.ReferenceIdeal.main_arg5 = Cert.KernelIdeal.Gen.V m c main_arg5 :=
  (Cert.ReferenceIdeal.Gen.V_main_arg5 m' c).trans (h.2.2.2.2.2.trans (Cert.KernelIdeal.Gen.V_main_arg5 m c).symm)

/-- From equal arguments the reference's activations are those of the kernel's operands. -/
theorem hid_eq (h : Agree m m' c) : Cert.ReferenceIdeal.Hand.hid m' c = refHid m c := by
  unfold Cert.ReferenceIdeal.Hand.hid
  rw [V0_eq m m' c h, V1_eq m m' c h, V2_eq m m' c h, V3_eq m m' c h, V4_eq m m' c h, V5_eq m m' c h]

/-- From equal arguments the reference's scaled row maxima are those of the kernel's operands. -/
theorem amx_eq (h : Agree m m' c) : Cert.ReferenceIdeal.Hand.amx m' c = refAmx m c := by
  unfold Cert.ReferenceIdeal.Hand.amx
  rw [V0_eq m m' c h, V1_eq m m' c h, V2_eq m m' c h, V3_eq m m' c h, V4_eq m m' c h, V5_eq m m' c h]

/-- A row is its place in its block row. -/
theorem xr_row (r : Fin 2048) : xr (rowBlk r) (rowIn r) = r :=
  Fin.ext (show 1024 * (r.val / 1024) + r.val % 1024 = r.val by omega)

/-- The kernel's array of codes is the reference's, of the operands the kernel sees. -/
theorem codesAll_eq : codesAll m c = Cert.ReferenceIdeal.Gen.k0_pay2 (refHid m c) (refAmx m c) Cert.ReferenceIdeal.Gen.k0_pay6 := by
  funext z
  refine (codesAll_at m c z (rowBlk (z 0)) (colGrp (z 1)) (ix2 (rowIn (z 0)) (colIn (z 1))) ?_ ?_).trans
    ((code_eq _ _ _ _ _ _ (rowBlk (z 0)) (colGrp (z 1)) (rowIn (z 0)) (colIn (z 1)) (z 1) ?_).trans (congrArg _ ?_))
  · exact (congrArg Fin.val (xr_row (z 0))).symm
  · show (z 1).val = 128 * ((z 1).val / 128) + (z 1).val % 128
    omega
  · show (z 1).val = 128 * ((z 1).val / 128) + (z 1).val % 128
    omega
  · funext a
    match a with
    | ⟨0, _⟩ => exact xr_row (z 0)
    | ⟨1, _⟩ => rfl

/-- The kernel's array of scales is the reference's, of the operands the kernel sees. -/
theorem scalesAll_eq : scalesAll m c = Cert.ReferenceIdeal.Gen.k0_pay3 (refAmx m c) Cert.ReferenceIdeal.Gen.k0_pay6 := by
  funext z
  have z1 : (z 1).val < 28 := (z 1).isLt
  refine (scalesAll_at m c z (rowBlk (z 0)) (ix2 (rowIn (z 0)) (z 1)) ?_ rfl).trans ?_
  · exact (congrArg Fin.val (xr_row (z 0))).symm
  have hw : wide (ix2 (rowIn (z 0)) (z 1)) = ix2 (rowIn (z 0)) (⟨(z 1).val, by omega⟩ : Fin 128) := by
    funext a
    match a with
    | ⟨0, _⟩ => rfl
    | ⟨1, _⟩ => rfl
  rw [hw]
  refine (scale_eq _ _ _ _ _ _ (rowBlk (z 0)) (z 1) (rowIn (z 0)) ⟨(z 1).val, by omega⟩).trans (congrArg _ ?_)
  funext a
  match a with
  | ⟨0, _⟩ => exact xr_row (z 0)
  | ⟨1, _⟩ => rfl

/-- From equal arguments the kernel's array of codes is the reference's. -/
theorem codes_agree (h : Agree m m' c) :
    Cert.ReferenceIdeal.Gen.k0_pay2 (Cert.ReferenceIdeal.Hand.hid m' c) (Cert.ReferenceIdeal.Hand.amx m' c) Cert.ReferenceIdeal.Gen.k0_pay6 = codesAll m c := by
  rw [hid_eq m m' c h, amx_eq m m' c h, codesAll_eq]

/-- From equal arguments the kernel's array of scales is the reference's. -/
theorem scales_agree (h : Agree m m' c) :
    Cert.ReferenceIdeal.Gen.k0_pay3 (Cert.ReferenceIdeal.Hand.amx m' c) Cert.ReferenceIdeal.Gen.k0_pay6 = scalesAll m c := by
  rw [amx_eq m m' c h, scalesAll_eq]

end

end Cert.Meet
end
-- ==== Proof.lean ====
/- The proof of the claim: both programs run to completion, leave their arguments as they were and every semaphore at
   zero; the kernel read over exact numbers is the kernel's own text; and from equal arguments the kernel and the
   reference end with equal results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelFrame
public import proofs.«01_k».proof.Proof.KernelRun
public import proofs.«01_k».proof.Proof.Algebraic
public import Idealize.ShloMosaic.Adequacy
public import Idealize.ShloMosaic.Init

@[expose] public section

noncomputable section

namespace Cert.Proof

open Idealize.ShloMosaic Idealize.SL.Sem

/-- From equal arguments the kernel and the reference both run, end with equal codes and equal scales, and leave their
    arguments as they were. -/
theorem algebraic : Cert.algebraic_KernelIdeal_ReferenceIdeal := fun m g m' g' _ h =>
  ⟨fun c => Cert.KernelIdeal.Hand.codesAll m c, fun c => Cert.KernelIdeal.Hand.scalesAll m c, Cert.KernelIdeal.Hand.results m g,
    (θ_run Cert.ReferenceIdeal.defs _ _).mono
      (fun r hr c => ⟨(hr c).1.trans (Cert.Meet.codes_agree m m' c (h c)), (hr c).2.1.trans (Cert.Meet.scales_agree m m' c (h c)), (hr c).2.2⟩)
      (Cert.ReferenceIdeal.Hand.results m' g')⟩

/-- The whole claim. -/
theorem claim : Cert.Claim :=
  ⟨Cert.Kernel.Gen.facts, Cert.KernelIdeal.Gen.facts, Cert.ReferenceIdeal.Gen.facts,
    fun m ρ _ => Cert.Kernel.Hand.frame m ρ, fun m ρ _ => Cert.KernelIdeal.Hand.frame m ρ, fun m ρ _ => Cert.ReferenceIdeal.Gen.frame m ρ,
    trivial, algebraic⟩

end Cert.Proof

end
